-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_words_contiguous [hPre_words_contiguous : Cert.Pre_words_contiguous.Facts] (m : (ℓ : Loc Cert.KernelIdeal.nD Cert.KernelIdeal.τ Cert.KernelIdeal.sig) → Buf (Elt Ideal) ℓ) : Prop :=
  ∀ c : Dev Cert.KernelIdeal.nD,
    (Cert.Pre_words_contiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_contiguous [hPre_words_contiguous : Cert.Pre_words_contiguous.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_contiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_words_contiguous [hKernelIdeal : Cert.KernelIdeal.Facts] [hPre_words_contiguous : Cert.Pre_words_contiguous.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_words_contiguous m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_words_contiguous [hReferenceIdeal : Cert.ReferenceIdeal.Facts] [hPre_words_contiguous : Cert.Pre_words_contiguous.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_contiguous m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_words_contiguous [hKernelIdeal : Cert.KernelIdeal.Facts] [hReferenceIdeal : Cert.ReferenceIdeal.Facts] [hPre_words_contiguous : Cert.Pre_words_contiguous.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_words_contiguous m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_words_contiguous : Cert.Pre_words_contiguous.Facts),
    quiescent_Kernel (hKernel := hKernel)
    ∧ quiescent_KernelIdeal (hKernelIdeal := hKernelIdeal)
    ∧ quiescent_KernelIdeal_pre_words_contiguous (hKernelIdeal := hKernelIdeal) (hPre_words_contiguous := hPre_words_contiguous)
    ∧ quiescent_ReferenceIdeal (hReferenceIdeal := hReferenceIdeal)
    ∧ quiescent_ReferenceIdeal_pre_words_contiguous (hReferenceIdeal := hReferenceIdeal) (hPre_words_contiguous := hPre_words_contiguous)
    ∧ preserves_Kernel_KernelIdeal
    ∧ algebraic_KernelIdeal_ReferenceIdeal_pre_words_contiguous (hKernelIdeal := hKernelIdeal) (hReferenceIdeal := hReferenceIdeal) (hPre_words_contiguous := hPre_words_contiguous)
-- ==== Pre_words_contiguous.lean ====
abbrev S8x256x2048 : Shape := ⟨3, ![8, 256, 2048]⟩
abbrev S8x2x128 : Shape := ⟨3, ![8, 2, 128]⟩
abbrev S8 : Shape := ⟨1, ![8]⟩
abbrev S512x256x5 : Shape := ⟨3, ![512, 256, 5]⟩
abbrev S512 : Shape := ⟨1, ![512]⟩
abbrev S512x512x5 : Shape := ⟨3, ![512, 512, 5]⟩
abbrev S1x512x5 : Shape := ⟨3, ![1, 512, 5]⟩
abbrev S1 : Shape := ⟨1, ![1]⟩
abbrev S_ : Shape := ⟨0, ![]⟩

class Facts : Prop where
  bcast_S8_S8x2x128_0 : S8.BroadcastsInDim S8x2x128 (![0] : Fin 1 → Fin S8x2x128.rank)
  bcast_S_S8x2x128 : S_.BroadcastsInDim S8x2x128 (![] : Fin 0 → Fin S8x2x128.rank)

variable [Facts]

def fn {F : FTy → Type} [FloatOps F] (main_arg0 : FVec F S8x256x2048 .f32) (main_arg1 : IVec S8x2x128 32) (main_arg2 : IVec S8 32) (main_arg3 : FVec F S512x256x5 .f32) (main_arg4 : FVec F S512 .f32) (main_arg5 : FVec F S512x512x5 .f32) (main_arg6 : FVec F S512 .f32) (main_arg7 : FVec F S512x512x5 .f32) (main_arg8 : FVec F S512 .f32) (main_arg9 : FVec F S1x512x5 .f32) (main_arg10 : FVec F S1 .f32) : IVec S8x2x128 1 :=
  let main_v0 : IVec S8x2x128 32 := iotaInDim S8x2x128 32 2
  let main_v1 : IVec S8x2x128 32 := iotaInDim S8x2x128 32 1
  let main_v2 : IVec S8x2x128 32 := broadcastInDim S8x2x128 ![0] bcast_S8_S8x2x128_0 main_arg2
  let main_v3 : IVec S8x2x128 32 := addi main_v0 main_v1
  let main_c : IVec S_ 32 := constantI S_ 32 16#32
  let main_v4 : IVec S8x2x128 32 := broadcastInDim S8x2x128 ![] bcast_S_S8x2x128 main_c
  let main_v5 : IVec S8x2x128 32 := muli main_v3 main_v4
  let main_v6 : IVec S8x2x128 1 := cmpi .eq main_arg1 main_v5
  let main_v7 : IVec S8x2x128 1 := cmpi .sge main_v0 main_v2
  let main_v8 : IVec S8x2x128 1 := ori main_v6 main_v7
  main_v8
-- ==== Kernel.lean ====
abbrev S8x256x2048 : Shape := ⟨3, ![8, 256, 2048]⟩
abbrev S8x2x128 : Shape := ⟨3, ![8, 2, 128]⟩
abbrev S8 : Shape := ⟨1, ![8]⟩
abbrev S512x256x5 : Shape := ⟨3, ![512, 256, 5]⟩
abbrev S512 : Shape := ⟨1, ![512]⟩
abbrev S512x512x5 : Shape := ⟨3, ![512, 512, 5]⟩
abbrev S1x512x5 : Shape := ⟨3, ![1, 512, 5]⟩
abbrev S1 : Shape := ⟨1, ![1]⟩
abbrev S128 : Shape := ⟨1, ![128]⟩
abbrev S1x128 : Shape := ⟨2, ![1, 128]⟩
abbrev S8x1 : Shape := ⟨2, ![8, 1]⟩
abbrev S8x128 : Shape := ⟨2, ![8, 128]⟩
abbrev S8x1x128 : Shape := ⟨3, ![8, 1, 128]⟩
abbrev S512x5x256 : Shape := ⟨3, ![512, 5, 256]⟩
abbrev S512x1280 : Shape := ⟨2, ![512, 1280]⟩
abbrev S512x5x512 : Shape := ⟨3, ![512, 5, 512]⟩
abbrev S512x2560 : Shape := ⟨2, ![512, 2560]⟩
abbrev S1x5x512 : Shape := ⟨3, ![1, 5, 512]⟩
abbrev S1x2560 : Shape := ⟨2, ![1, 2560]⟩
abbrev S512x1 : Shape := ⟨2, ![512, 1]⟩
abbrev S1x1 : Shape := ⟨2, ![1, 1]⟩
abbrev S1024 : Shape := ⟨1, ![1024]⟩
abbrev S1024x1 : Shape := ⟨2, ![1024, 1]⟩
abbrev S64 : Shape := ⟨1, ![64]⟩
abbrev S1x64 : Shape := ⟨2, ![1, 64]⟩
abbrev S_ : Shape := ⟨0, ![]⟩
abbrev S1024x64 : Shape := ⟨2, ![1024, 64]⟩
abbrev S1x256x2048 : Shape := ⟨3, ![1, 256, 2048]⟩
abbrev S1x1x128 : Shape := ⟨3, ![1, 1, 128]⟩
abbrev S256x2052 : Shape := ⟨2, ![256, 2052]⟩
abbrev S1280x1024 : Shape := ⟨2, ![1280, 1024]⟩
abbrev S512x2052 : Shape := ⟨2, ![512, 2052]⟩
abbrev S2560x1024 : Shape := ⟨2, ![2560, 1024]⟩
abbrev S512x128 : Shape := ⟨2, ![512, 128]⟩
abbrev S512x132 : Shape := ⟨2, ![512, 132]⟩
abbrev S2560x128 : Shape := ⟨2, ![2560, 128]⟩
abbrev S256x2048 : Shape := ⟨2, ![256, 2048]⟩
abbrev S256x2 : Shape := ⟨2, ![256, 2]⟩
abbrev S256x1 : Shape := ⟨2, ![256, 1]⟩
abbrev S256x3 : Shape := ⟨2, ![256, 3]⟩
abbrev S512x2 : Shape := ⟨2, ![512, 2]⟩
abbrev S512x3 : Shape := ⟨2, ![512, 3]⟩
abbrev S256x1024 : Shape := ⟨2, ![256, 1024]⟩
abbrev S512x1024 : Shape := ⟨2, ![512, 1024]⟩
abbrev S512x64 : Shape := ⟨2, ![512, 64]⟩

abbrev nBuf : Space → Nat
  | .hbm => 67
  | .vmem => 25
  | .smem => 0
  | _ => 0

abbrev bufTy : (tb : Table) → Fin (tcTables nBuf tb) → BufTy
  | .hbm, ⟨0, _⟩ => ⟨S8x256x2048, .f32⟩
  | .hbm, ⟨1, _⟩ => ⟨S8x2x128, .i32⟩
  | .hbm, ⟨2, _⟩ => ⟨S8, .i32⟩
  | .hbm, ⟨3, _⟩ => ⟨S512x256x5, .f32⟩
  | .hbm, ⟨4, _⟩ => ⟨S512, .f32⟩
  | .hbm, ⟨5, _⟩ => ⟨S512x512x5, .f32⟩
  | .hbm, ⟨6, _⟩ => ⟨S512, .f32⟩
  | .hbm, ⟨7, _⟩ => ⟨S512x512x5, .f32⟩
  | .hbm, ⟨8, _⟩ => ⟨S512, .f32⟩
  | .hbm, ⟨9, _⟩ => ⟨S1x512x5, .f32⟩
  | .hbm, ⟨10, _⟩ => ⟨S1, .f32⟩
  | .hbm, ⟨11, _⟩ => ⟨S128, .i32⟩
  | .hbm, ⟨12, _⟩ => ⟨S1x128, .i32⟩
  | .hbm, ⟨13, _⟩ => ⟨S8x1, .i32⟩
  | .hbm, ⟨14, _⟩ => ⟨S8x128, .i32⟩
  | .hbm, ⟨15, _⟩ => ⟨S8x128, .i32⟩
  | .hbm, ⟨16, _⟩ => ⟨S8x128, .i1⟩
  | .hbm, ⟨17, _⟩ => ⟨S8x128, .f32⟩
  | .hbm, ⟨18, _⟩ => ⟨S8x1x128, .f32⟩
  | .hbm, ⟨19, _⟩ => ⟨S512x256x5, .bf16⟩
  | .hbm, ⟨20, _⟩ => ⟨S512x5x256, .bf16⟩
  | .hbm, ⟨21, _⟩ => ⟨S512x1280, .bf16⟩
  | .hbm, ⟨22, _⟩ => ⟨S512x512x5, .bf16⟩
  | .hbm, ⟨23, _⟩ => ⟨S512x5x512, .bf16⟩
  | .hbm, ⟨24, _⟩ => ⟨S512x2560, .bf16⟩
  | .hbm, ⟨25, _⟩ => ⟨S512x512x5, .bf16⟩
  | .hbm, ⟨26, _⟩ => ⟨S512x5x512, .bf16⟩
  | .hbm, ⟨27, _⟩ => ⟨S512x2560, .bf16⟩
  | .hbm, ⟨28, _⟩ => ⟨S1x512x5, .bf16⟩
  | .hbm, ⟨29, _⟩ => ⟨S1x5x512, .bf16⟩
  | .hbm, ⟨30, _⟩ => ⟨S1x2560, .bf16⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S1x1, .f32⟩
  | .hbm, ⟨35, _⟩ => ⟨S1024, .i32⟩
  | .hbm, ⟨36, _⟩ => ⟨S1024x1, .i32⟩
  | .hbm, ⟨37, _⟩ => ⟨S64, .i32⟩
  | .hbm, ⟨38, _⟩ => ⟨S1x64, .i32⟩
  | .hbm, ⟨39, _⟩ => ⟨S_, .i32⟩
  | .hbm, ⟨40, _⟩ => ⟨S_, .i32⟩
  | .hbm, ⟨41, _⟩ => ⟨S1024x1, .i32⟩
  | .hbm, ⟨42, _⟩ => ⟨S1024x1, .i32⟩
  | .hbm, ⟨43, _⟩ => ⟨S1024x1, .i32⟩
  | .hbm, ⟨44, _⟩ => ⟨S_, .i32⟩
  | .hbm, ⟨45, _⟩ => ⟨S1024x1, .i32⟩
  | .hbm, ⟨46, _⟩ => ⟨S1024x1, .i1⟩
  | .hbm, ⟨47, _⟩ => ⟨S1024x1, .i32⟩
  | .hbm, ⟨48, _⟩ => ⟨S1024x1, .i32⟩
  | .hbm, ⟨49, _⟩ => ⟨S_, .i32⟩
  | .hbm, ⟨50, _⟩ => ⟨S1024x1, .i32⟩
  | .hbm, ⟨51, _⟩ => ⟨S1024x1, .i1⟩
  | .hbm, ⟨52, _⟩ => ⟨S1024x1, .i1⟩
  | .hbm, ⟨53, _⟩ => ⟨S_, .i32⟩
  | .hbm, ⟨54, _⟩ => ⟨S1024x1, .i32⟩
  | .hbm, ⟨55, _⟩ => ⟨S1024x1, .i32⟩
  | .hbm, ⟨56, _⟩ => ⟨S1024x1, .i32⟩
  | .hbm, ⟨57, _⟩ => ⟨S1024x64, .i32⟩
  | .hbm, ⟨58, _⟩ => ⟨S1024x64, .i32⟩
  | .hbm, ⟨59, _⟩ => ⟨S1024x64, .i1⟩
  | .hbm, ⟨60, _⟩ => ⟨S_, .f32⟩
  | .hbm, ⟨61, _⟩ => ⟨S_, .f32⟩
  | .hbm, ⟨62, _⟩ => ⟨S1024x64, .f32⟩
  | .hbm, ⟨63, _⟩ => ⟨S1024x64, .f32⟩
  | .hbm, ⟨64, _⟩ => ⟨S1024x64, .f32⟩
  | .hbm, ⟨65, _⟩ => ⟨S1024x64, .bf16⟩
  | .hbm, ⟨66, _⟩ => ⟨S8x1x128, .f32⟩
  | .local _ .vmem, ⟨0, _⟩ => ⟨S1x256x2048, .f32⟩
  | .local _ .vmem, ⟨1, _⟩ => ⟨S1x256x2048, .f32⟩
  | .local _ .vmem, ⟨2, _⟩ => ⟨S1x1x128, .f32⟩
  | .local _ .vmem, ⟨3, _⟩ => ⟨S1x1x128, .f32⟩
  | .local _ .vmem, ⟨4, _⟩ => ⟨S512x1280, .bf16⟩
  | .local _ .vmem, ⟨5, _⟩ => ⟨S512x1, .f32⟩
  | .local _ .vmem, ⟨6, _⟩ => ⟨S512x2560, .bf16⟩
  | .local _ .vmem, ⟨7, _⟩ => ⟨S512x1, .f32⟩
  | .local _ .vmem, ⟨8, _⟩ => ⟨S512x2560, .bf16⟩
  | .local _ .vmem, ⟨9, _⟩ => ⟨S512x1, .f32⟩
  | .local _ .vmem, ⟨10, _⟩ => ⟨S1x2560, .bf16⟩
  | .local _ .vmem, ⟨11, _⟩ => ⟨S1x1, .f32⟩
  | .local _ .vmem, ⟨12, _⟩ => ⟨S1024x64, .bf16⟩
  | .local _ .vmem, ⟨13, _⟩ => ⟨S1x1x128, .f32⟩
  | .local _ .vmem, ⟨14, _⟩ => ⟨S1x1x128, .f32⟩
  | .local _ .vmem, ⟨15, _⟩ => ⟨S256x2052, .bf16⟩
  | .local _ .vmem, ⟨16, _⟩ => ⟨S256x2052, .bf16⟩
  | .local _ .vmem, ⟨17, _⟩ => ⟨S1280x1024, .bf16⟩
  | .local _ .vmem, ⟨18, _⟩ => ⟨S512x2052, .bf16⟩
  | .local _ .vmem, ⟨19, _⟩ => ⟨S512x2052, .bf16⟩
  | .local _ .vmem, ⟨20, _⟩ => ⟨S2560x1024, .bf16⟩
  | .local _ .vmem, ⟨21, _⟩ => ⟨S512x128, .f32⟩
  | .local _ .vmem, ⟨22, _⟩ => ⟨S512x132, .bf16⟩
  | .local _ .vmem, ⟨23, _⟩ => ⟨S512x132, .bf16⟩
  | .local _ .vmem, ⟨24, _⟩ => ⟨S2560x128, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst : Ref sig .tc := ⟨.hbm, 60, rfl⟩
abbrev main_cst_0 : Ref sig .tc := ⟨.hbm, 61, rfl⟩
abbrev main_call1_v0 : Ref sig .tc := ⟨.hbm, 62, rfl⟩
abbrev main_call1_v1 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x256x2048 : Shape := ⟨3, ![8, 256, 2048]⟩
abbrev S8x2x128 : Shape := ⟨3, ![8, 2, 128]⟩
abbrev S8 : Shape := ⟨1, ![8]⟩
abbrev S512x256x5 : Shape := ⟨3, ![512, 256, 5]⟩
abbrev S512 : Shape := ⟨1, ![512]⟩
abbrev S512x512x5 : Shape := ⟨3, ![512, 512, 5]⟩
abbrev S1x512x5 : Shape := ⟨3, ![1, 512, 5]⟩
abbrev S1 : Shape := ⟨1, ![1]⟩
abbrev S_ : Shape := ⟨0, ![]⟩
abbrev S8x256x2052 : Shape := ⟨3, ![8, 256, 2052]⟩
abbrev S512x256x1 : Shape := ⟨3, ![512, 256, 1]⟩
abbrev S512x256 : Shape := ⟨2, ![512, 256]⟩
abbrev S8x2048x512 : Shape := ⟨3, ![8, 2048, 512]⟩
abbrev S8x512x2048 : Shape := ⟨3, ![8, 512, 2048]⟩
abbrev S1x512x1 : Shape := ⟨3, ![1, 512, 1]⟩
abbrev S8x512x2052 : Shape := ⟨3, ![8, 512, 2052]⟩
abbrev S512x512x1 : Shape := ⟨3, ![512, 512, 1]⟩
abbrev S512x512 : Shape := ⟨2, ![512, 512]⟩
abbrev S8x1x128 : Shape := ⟨3, ![8, 1, 128]⟩
abbrev S8x128 : Shape := ⟨2, ![8, 128]⟩
abbrev S2048 : Shape := ⟨1, ![2048]⟩
abbrev S1x1x2048 : Shape := ⟨3, ![1, 1, 2048]⟩
abbrev S8x128x1 : Shape := ⟨3, ![8, 128, 1]⟩
abbrev S8x128x2048 : Shape := ⟨3, ![8, 128, 2048]⟩
abbrev S128 : Shape := ⟨1, ![128]⟩
abbrev S1x128 : Shape := ⟨2, ![1, 128]⟩
abbrev S8x1 : Shape := ⟨2, ![8, 1]⟩
abbrev S8x512x128 : Shape := ⟨3, ![8, 512, 128]⟩
abbrev S8x512x132 : Shape := ⟨3, ![8, 512, 132]⟩
abbrev S8x128x512 : Shape := ⟨3, ![8, 128, 512]⟩
abbrev S1x512 : Shape := ⟨2, ![1, 512]⟩
abbrev S1x1x1 : Shape := ⟨3, ![1, 1, 1]⟩

abbrev nBuf : Space → Nat
  | .hbm => 199
  | .vmem => 0
  | .smem => 0
  | _ => 0

abbrev hbmTy0_0 (i : Nat) : BufTy := match i % 128 with
  | 0 => ⟨S8x256x2048, .f32⟩
  | 1 => ⟨S8x2x128, .i32⟩
  | 2 => ⟨S8, .i32⟩
  | 3 => ⟨S512x256x5, .f32⟩
  | 4 => ⟨S512, .f32⟩
  | 5 => ⟨S512x512x5, .f32⟩
  | 6 => ⟨S512, .f32⟩
  | 7 => ⟨S512x512x5, .f32⟩
  | 8 => ⟨S512, .f32⟩
  | 9 => ⟨S1x512x5, .f32⟩
  | 10 => ⟨S1, .f32⟩
  | 11 => ⟨S_, .i32⟩
  | 12 => ⟨S_, .f32⟩
  | 13 => ⟨S8x256x2052, .f32⟩
  | 14 => ⟨S512x256x1, .f32⟩
  | 15 => ⟨S512x256, .f32⟩
  | 16 => ⟨S8x256x2048, .f32⟩
  | 17 => ⟨S8x2048x512, .f32⟩
  | 18 => ⟨S8x512x2048, .f32⟩
  | 19 => ⟨S512x256x1, .f32⟩
  | 20 => ⟨S512x256, .f32⟩
  | 21 => ⟨S8x256x2048, .f32⟩
  | 22 => ⟨S8x2048x512, .f32⟩
  | 23 => ⟨S8x512x2048, .f32⟩
  | 24 => ⟨S8x512x2048, .f32⟩
  | 25 => ⟨S512x256x1, .f32⟩
  | 26 => ⟨S512x256, .f32⟩
  | 27 => ⟨S8x256x2048, .f32⟩
  | 28 => ⟨S8x2048x512, .f32⟩
  | 29 => ⟨S8x512x2048, .f32⟩
  | 30 => ⟨S8x512x2048, .f32⟩
  | 31 => ⟨S512x256x1, .f32⟩
  | 32 => ⟨S512x256, .f32⟩
  | 33 => ⟨S8x256x2048, .f32⟩
  | 34 => ⟨S8x2048x512, .f32⟩
  | 35 => ⟨S8x512x2048, .f32⟩
  | 36 => ⟨S8x512x2048, .f32⟩
  | 37 => ⟨S512x256x1, .f32⟩
  | 38 => ⟨S512x256, .f32⟩
  | 39 => ⟨S8x256x2048, .f32⟩
  | 40 => ⟨S8x2048x512, .f32⟩
  | 41 => ⟨S8x512x2048, .f32⟩
  | 42 => ⟨S8x512x2048, .f32⟩
  | 43 => ⟨S1x512x1, .f32⟩
  | 44 => ⟨S8x512x2048, .f32⟩
  | 45 => ⟨S8x512x2048, .f32⟩
  | 46 => ⟨S_, .f32⟩
  | 47 => ⟨S8x512x2048, .f32⟩
  | 48 => ⟨S8x512x2048, .f32⟩
  | 49 => ⟨S_, .i32⟩
  | 50 => ⟨S_, .f32⟩
  | 51 => ⟨S8x512x2052, .f32⟩
  | 52 => ⟨S512x512x1, .f32⟩
  | 53 => ⟨S512x512, .f32⟩
  | 54 => ⟨S8x512x2048, .f32⟩
  | 55 => ⟨S8x2048x512, .f32⟩
  | 56 => ⟨S8x512x2048, .f32⟩
  | 57 => ⟨S512x512x1, .f32⟩
  | 58 => ⟨S512x512, .f32⟩
  | 59 => ⟨S8x512x2048, .f32⟩
  | 60 => ⟨S8x2048x512, .f32⟩
  | 61 => ⟨S8x512x2048, .f32⟩
  | 62 => ⟨S8x512x2048, .f32⟩
  | 63 => ⟨S512x512x1, .f32⟩
  | 64 => ⟨S512x512, .f32⟩
  | 65 => ⟨S8x512x2048, .f32⟩
  | 66 => ⟨S8x2048x512, .f32⟩
  | 67 => ⟨S8x512x2048, .f32⟩
  | 68 => ⟨S8x512x2048, .f32⟩
  | 69 => ⟨S512x512x1, .f32⟩
  | 70 => ⟨S512x512, .f32⟩
  | 71 => ⟨S8x512x2048, .f32⟩
  | 72 => ⟨S8x2048x512, .f32⟩
  | 73 => ⟨S8x512x2048, .f32⟩
  | 74 => ⟨S8x512x2048, .f32⟩
  | 75 => ⟨S512x512x1, .f32⟩
  | 76 => ⟨S512x512, .f32⟩
  | 77 => ⟨S8x512x2048, .f32⟩
  | 78 => ⟨S8x2048x512, .f32⟩
  | 79 => ⟨S8x512x2048, .f32⟩
  | 80 => ⟨S8x512x2048, .f32⟩
  | 81 => ⟨S1x512x1, .f32⟩
  | 82 => ⟨S8x512x2048, .f32⟩
  | 83 => ⟨S8x512x2048, .f32⟩
  | 84 => ⟨S8x1x128, .i32⟩
  | 85 => ⟨S8x128, .i32⟩
  | 86 => ⟨S8x1x128, .i32⟩
  | 87 => ⟨S8x128, .i32⟩
  | 88 => ⟨S2048, .i32⟩
  | 89 => ⟨S1x1x2048, .i32⟩
  | 90 => ⟨S8x128x1, .i32⟩
  | 91 => ⟨S8x128x2048, .i32⟩
  | 92 => ⟨S8x128x2048, .i32⟩
  | 93 => ⟨S8x128x2048, .i1⟩
  | 94 => ⟨S8x128x1, .i32⟩
  | 95 => ⟨S8x128x2048, .i32⟩
  | 96 => ⟨S8x128x2048, .i32⟩
  | 97 => ⟨S8x128x2048, .i1⟩
  | 98 => ⟨S8x128x2048, .i1⟩
  | 99 => ⟨S128, .i32⟩
  | 100 => ⟨S1x128, .i32⟩
  | 101 => ⟨S8x1, .i32⟩
  | 102 => ⟨S8x128, .i32⟩
  | 103 => ⟨S8x128, .i32⟩
  | 104 => ⟨S8x128, .i1⟩
  | 105 => ⟨S8x128x1, .i1⟩
  | 106 => ⟨S8x128x2048, .i1⟩
  | 107 => ⟨S8x128x2048, .i1⟩
  | 108 => ⟨S8x128x2048, .f32⟩
  | 109 => ⟨S8x512x128, .f32⟩
  | 110 => ⟨S_, .f32⟩
  | 111 => ⟨S8x128, .f32⟩
  | 112 => ⟨S8x1x128, .f32⟩
  | 113 => ⟨S_, .f32⟩
  | 114 => ⟨S8x1x128, .f32⟩
  | 115 => ⟨S8x1x128, .i1⟩
  | 116 => ⟨S_, .f32⟩
  | 117 => ⟨S8x1x128, .f32⟩
  | 118 => ⟨S8x1x128, .f32⟩
  | 119 => ⟨S8x512x128, .f32⟩
  | 120 => ⟨S8x512x128, .f32⟩
  | 121 => ⟨S_, .f32⟩
  | 122 => ⟨S_, .f32⟩
  | 123 => ⟨S8x512x128, .i1⟩
  | 124 => ⟨S8x512x128, .f32⟩
  | 125 => ⟨S8x512x128, .f32⟩
  | 126 => ⟨S_, .i32⟩
  | 127 => ⟨S_, .f32⟩
  | _ => ⟨S8x256x2048, .f32⟩

abbrev hbmTy0_1 (i : Nat) : BufTy := match i % 128 with
  | 0 => ⟨S8x512x132, .f32⟩
  | 1 => ⟨S512x512x1, .f32⟩
  | 2 => ⟨S512x512, .f32⟩
  | 3 => ⟨S8x512x128, .f32⟩
  | 4 => ⟨S8x128x512, .f32⟩
  | 5 => ⟨S8x512x128, .f32⟩
  | 6 => ⟨S512x512x1, .f32⟩
  | 7 => ⟨S512x512, .f32⟩
  | 8 => ⟨S8x512x128, .f32⟩
  | 9 => ⟨S8x128x512, .f32⟩
  | 10 => ⟨S8x512x128, .f32⟩
  | 11 => ⟨S8x512x128, .f32⟩
  | 12 => ⟨S512x512x1, .f32⟩
  | 13 => ⟨S512x512, .f32⟩
  | 14 => ⟨S8x512x128, .f32⟩
  | 15 => ⟨S8x128x512, .f32⟩
  | 16 => ⟨S8x512x128, .f32⟩
  | 17 => ⟨S8x512x128, .f32⟩
  | 18 => ⟨S512x512x1, .f32⟩
  | 19 => ⟨S512x512, .f32⟩
  | 20 => ⟨S8x512x128, .f32⟩
  | 21 => ⟨S8x128x512, .f32⟩
  | 22 => ⟨S8x512x128, .f32⟩
  | 23 => ⟨S8x512x128, .f32⟩
  | 24 => ⟨S512x512x1, .f32⟩
  | 25 => ⟨S512x512, .f32⟩
  | 26 => ⟨S8x512x128, .f32⟩
  | 27 => ⟨S8x128x512, .f32⟩
  | 28 => ⟨S8x512x128, .f32⟩
  | 29 => ⟨S8x512x128, .f32⟩
  | 30 => ⟨S1x512x1, .f32⟩
  | 31 => ⟨S8x512x128, .f32⟩
  | 32 => ⟨S8x512x128, .f32⟩
  | 33 => ⟨S_, .f32⟩
  | 34 => ⟨S8x512x128, .f32⟩
  | 35 => ⟨S8x512x128, .f32⟩
  | 36 => ⟨S_, .i32⟩
  | 37 => ⟨S_, .f32⟩
  | 38 => ⟨S8x512x132, .f32⟩
  | 39 => ⟨S1x512x1, .f32⟩
  | 40 => ⟨S1x512, .f32⟩
  | 41 => ⟨S8x512x128, .f32⟩
  | 42 => ⟨S8x128x1, .f32⟩
  | 43 => ⟨S8x1x128, .f32⟩
  | 44 => ⟨S1x512x1, .f32⟩
  | 45 => ⟨S1x512, .f32⟩
  | 46 => ⟨S8x512x128, .f32⟩
  | 47 => ⟨S8x128x1, .f32⟩
  | 48 => ⟨S8x1x128, .f32⟩
  | 49 => ⟨S8x1x128, .f32⟩
  | 50 => ⟨S1x512x1, .f32⟩
  | 51 => ⟨S1x512, .f32⟩
  | 52 => ⟨S8x512x128, .f32⟩
  | 53 => ⟨S8x128x1, .f32⟩
  | 54 => ⟨S8x1x128, .f32⟩
  | 55 => ⟨S8x1x128, .f32⟩
  | 56 => ⟨S1x512x1, .f32⟩
  | 57 => ⟨S1x512, .f32⟩
  | 58 => ⟨S8x512x128, .f32⟩
  | 59 => ⟨S8x128x1, .f32⟩
  | 60 => ⟨S8x1x128, .f32⟩
  | 61 => ⟨S8x1x128, .f32⟩
  | 62 => ⟨S1x512x1, .f32⟩
  | 63 => ⟨S1x512, .f32⟩
  | 64 => ⟨S8x512x128, .f32⟩
  | 65 => ⟨S8x128x1, .f32⟩
  | 66 => ⟨S8x1x128, .f32⟩
  | 67 => ⟨S8x1x128, .f32⟩
  | 68 => ⟨S1x1x1, .f32⟩
  | 69 => ⟨S8x1x128, .f32⟩
  | 70 => ⟨S8x1x128, .f32⟩
  | _ => ⟨S8x256x2048, .f32⟩

abbrev hbmTy (i : Nat) : BufTy := match i / 128 with
  | 0 => hbmTy0_0 i
  | 1 => hbmTy0_1 i
  | _ => ⟨S8x256x2048, .f32⟩

abbrev bufTy : (tb : Table) → Fin (tcTables nBuf tb) → BufTy
  | .hbm, ⟨i, _⟩ => hbmTy i
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call1_cst : Ref sig .tc := ⟨.hbm, 46, rfl⟩
abbrev main_call1_v0 : Ref sig .tc := ⟨.hbm, 47, rfl⟩
abbrev main_v33 : Ref sig .tc := ⟨.hbm, 48, rfl⟩
abbrev main_c_0 : Ref sig .tc := ⟨.hbm, 49, rfl⟩
abbrev main_call2_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst : Ref sig .tc := ⟨.hbm, 110, rfl⟩
abbrev main_v93 : Ref sig .tc := ⟨.hbm, 111, rfl⟩
abbrev main_v94 : Ref sig .tc := ⟨.hbm, 112, rfl⟩
abbrev main_cst_1 : Ref sig .tc := ⟨.hbm, 113, rfl⟩
abbrev main_v95 : Ref sig .tc := ⟨.hbm, 114, rfl⟩
abbrev main_v96 : Ref sig .tc := ⟨.hbm, 115, rfl⟩
abbrev main_cst_2 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_3 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v101 : Ref sig .tc := ⟨.hbm, 125, rfl⟩
abbrev main_c_4 : Ref sig .tc := ⟨.hbm, 126, rfl⟩
abbrev main_call4_v0 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_call5_cst : Ref sig .tc := ⟨.hbm, 161, rfl⟩
abbrev main_call5_v0 : Ref sig .tc := ⟨.hbm, 162, rfl⟩
abbrev main_v135 : Ref sig .tc := ⟨.hbm, 163, rfl⟩
abbrev main_c_5 : Ref sig .tc := ⟨.hbm, 164, rfl⟩
abbrev main_call6_v0 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩

abbrev nD : Nat := 1
abbrev τ : Topo := Topo.v7x

variable {F : FTy → Type} [FloatOps F]
-- ==== Proof.Value.Math.lean ====
/- The mathematics both programs compute, over plain functions: a signal padded with two zeros on either side, and a
   convolution of width five over the channels of a padded signal. -/
module

public import Idealize.ShloMosaic.PureOps.Ideal.Laws
public import Idealize.ShloMosaic.Lib.Pointwise

@[expose] public section

noncomputable section

namespace Cert.Words

open Idealize.ShloMosaic

/-- A signal of `T` entries shifted right by two and continued by zero: entry `n` is `f (n - 2)` where that is an entry, else zero. -/
def padded (T : ℕ) (f : Fin T → EReal) (n : ℕ) : EReal :=
  if h : 2 ≤ n ∧ n < T + 2 then f ⟨n - 2, by omega⟩ else 0

/-- A convolution of width five over `C` channels, at output position `t`: the sum over the tap `k` and the channel `c`
    of the weight times the padded signal at `t + k`. -/
def conv (C T : ℕ) (w : Fin 5 → Fin C → EReal) (x : Fin C → Fin T → EReal) (t : ℕ) : EReal :=
  ∑ k : Fin 5, ∑ c : Fin C, w k c * padded T (x c) (t + k)

/-- One output channel of a convolution of width five with its bias added. -/
def layer (C T : ℕ) (b : EReal) (w : Fin C → Fin 5 → EReal) (x : Fin C → Fin T → EReal) (t : Fin T) : EReal :=
  b + conv C T (fun k c => w c k) x t

/-- One output channel of two such layers, the negative part cut off between them. -/
def component (C H T : ℕ) (w1 : Fin H → Fin C → Fin 5 → EReal) (b1 : Fin H → EReal) (w2 : Fin H → Fin 5 → EReal) (b2 : EReal) (x : Fin C → Fin T → EReal) (t : Fin T) : EReal :=
  layer H T b2 w2 (fun q s => max (layer C T (b1 q) (w1 q) x s) 0) t

/-- The mean of a signal over word `w`, the sixteen positions from `16 * w` on, for a word that counts; zero for one that does not. -/
def wordMean (e : Fin 2048 → EReal) (counts : Bool) (w : Fin 128) : EReal :=
  if counts then (∑ i : Fin 16, e ⟨16 * w + i, by omega⟩) * ((1 / 16 : ℝ) : EReal) else 0

/-- Multiplication by a non-negative real goes into a sum of extended reals. -/
theorem sum_mul_real {n : ℕ} (f : Fin n → EReal) (c : ℝ) (hc : 0 ≤ c) : (∑ i, f i) * (c : EReal) = ∑ i, f i * (c : EReal) := by
  induction n with
  | zero => simp
  | succ n ih =>
    rw [Fin.sum_univ_succ, Fin.sum_univ_succ, mul_comm, EReal.left_distrib_of_nonneg_of_ne_top (by exact_mod_cast hc) (EReal.coe_ne_top c), mul_comm, mul_comm (c : EReal), ih]

/-- A sum over `16 * J` positions of terms that vanish outside word `w` is the sum over the word. -/
theorem sum_word (J : ℕ) {N : ℕ} (hN : J * 16 = N) (w : Fin J) (g : Fin N → EReal) (h0 : ∀ t : Fin N, (t : ℕ) / 16 ≠ w → g t = 0) :
    ∑ t : Fin N, g t = ∑ i : Fin 16, g ⟨w * 16 + i, by have := w.isLt; omega⟩ := by
  rw [Fin.sum_univ_tiles J 16 hN]
  refine Finset.sum_eq_single w (fun j _ hj => Finset.sum_eq_zero fun i _ => h0 _ ?_) fun h => absurd (Finset.mem_univ w) h
  intro h
  refine hj (Fin.ext ?_)
  have hi := i.isLt
  have h' : ((j : ℕ) * 16 + i) / 16 = w := h
  omega

/-- The kernel's pooling: a half of the positions contracted with the column of sixteenths, times one or zero. -/
theorem pool_kernel (e : Fin 2048 → EReal) (counts : Bool) (w : Fin 128) :
    (∑ t : Fin 1024, e ⟨1024 * ((w : ℕ) / 64) + t, by omega⟩ * (if (t : ℕ) / 16 = (w : ℕ) % 64 then ((1 / 16 : ℝ) : EReal) else 0)) * (if counts then 1 else 0)
      = wordMean e counts w := by
  unfold wordMean
  cases counts with
  | false => simp
  | true =>
    rw [if_pos rfl, if_pos rfl, mul_one, sum_mul_real _ _ (by norm_num), sum_word 64 rfl ⟨(w : ℕ) % 64, by omega⟩ _ (fun t ht => by rw [if_neg ht, mul_zero])]
    refine Finset.sum_congr rfl fun i _ => ?_
    have hi := i.isLt
    rw [if_pos (by show ((w : ℕ) % 64 * 16 + i) / 16 = (w : ℕ) % 64; omega)]
    exact congrArg (· * _) (congrArg e (Fin.ext (by show 1024 * ((w : ℕ) / 64) + ((w : ℕ) % 64 * 16 + i) = 16 * (w : ℕ) + i; omega)))

/-- The reference's pooling of a word that counts, over its mask: the masked sum over the number of masked positions, kept where that number is positive. -/
theorem pool_reference (e : Fin 2048 → EReal) (counts : Bool) (w : Fin 128) (mask : Fin 2048 → EReal)
    (hm : ∀ t : Fin 2048, mask t = if counts ∧ (t : ℕ) / 16 = w then 1 else 0) :
    (if (0 : EReal) < ∑ t, mask t then Ideal.div (∑ t, e t * mask t) (max (∑ t, mask t) 1) else 0) = wordMean e counts w := by
  unfold wordMean
  cases counts with
  | false =>
    have h : ∑ t, mask t = 0 := Finset.sum_eq_zero fun t _ => by rw [hm t]; simp
    rw [h]; simp
  | true =>
    have hc : ∑ t, mask t = ((16 : ℝ) : EReal) := by
      rw [sum_word 128 rfl w mask (fun t ht => by rw [hm t]; simp [ht])]
      rw [Finset.sum_congr rfl (g := fun _ => (1 : EReal)) fun i _ => by
        have hi := i.isLt
        rw [hm, if_pos ⟨rfl, by show ((w : ℕ) * 16 + i) / 16 = w; omega⟩]]
      simp
      rfl
    have hs : ∑ t, e t * mask t = ∑ i : Fin 16, e ⟨16 * w + i, by omega⟩ := by
      rw [sum_word 128 rfl w (fun t => e t * mask t) (fun t ht => by show e t * mask t = 0; rw [hm t]; simp [ht])]
      refine Finset.sum_congr rfl fun i _ => ?_
      have hi := i.isLt
      show e _ * mask _ = _
      rw [hm, if_pos ⟨rfl, by show ((w : ℕ) * 16 + i) / 16 = w; omega⟩, mul_one]
      exact congrArg e (Fin.ext (by show (w : ℕ) * 16 + i = 16 * (w : ℕ) + i; omega))
    rw [hc, hs, if_pos (by exact_mod_cast (by norm_num : (0 : ℝ) < 16)), if_pos rfl, max_eq_left (by exact_mod_cast (by norm_num : (1 : ℝ) ≤ 16))]
    exact Ideal.div_coe (by norm_num) _

/-- A signal padded by a zero `z`, as a choice on the position. -/
theorem padded_eq (T : ℕ) (f : Fin T → EReal) (n : ℕ) (z : EReal) (hz : z = 0) : (if h : 2 ≤ n ∧ n - 2 < T then f ⟨n - 2, h.2⟩ else z) = padded T f n := by
  unfold padded
  by_cases h : 2 ≤ n ∧ n - 2 < T
  · rw [dif_pos h, dif_pos (⟨h.1, by omega⟩ : 2 ≤ n ∧ n < T + 2)]
  · rw [dif_neg h, dif_neg (by omega), hz]

/-- A layer as the reference sums it: the five taps' contractions one after the other, then the bias. -/
theorem layer_taps (C T : ℕ) (b : EReal) (w : Fin C → Fin 5 → EReal) (x : Fin C → Fin T → EReal) (t : Fin T) :
    ∑ i, padded T (x i) t * w i 0 + ∑ i, padded T (x i) (1 + t) * w i 1 + ∑ i, padded T (x i) (2 + t) * w i 2 + ∑ i, padded T (x i) (3 + t) * w i 3
      + ∑ i, padded T (x i) (4 + t) * w i 4 + b = layer C T b w x t := by
  unfold layer conv
  rw [Fin.sum_univ_five, add_comm b]
  have e (k : Fin 5) (n : ℕ) (hn : (t : ℕ) + k = n) : ∑ i, padded T (x i) n * w i k = ∑ i, w i k * padded T (x i) (t + k) :=
    Finset.sum_congr rfl fun i _ => by rw [mul_comm, hn]
  rw [e 0 t rfl, e 1 (1 + t) (Nat.add_comm _ _), e 2 (2 + t) (Nat.add_comm _ _), e 3 (3 + t) (Nat.add_comm _ _), e 4 (4 + t) (Nat.add_comm _ _)]

/-- Words of numbers below 2 ^ 31 compare as the numbers. -/
theorem slt_words (a b : ℕ) (ha : a < 2147483648) (hb : b < 2147483648) : (BitVec.ofNat 32 a).slt (BitVec.ofNat 32 b) = decide (a < b) := by
  have ea : (BitVec.ofNat 32 a).toInt = a := by rw [BitVec.toInt_eq_toNat_of_lt (by rw [BitVec.toNat_ofNat]; omega), BitVec.toNat_ofNat]; omega
  have eb : (BitVec.ofNat 32 b).toInt = b := by rw [BitVec.toInt_eq_toNat_of_lt (by rw [BitVec.toNat_ofNat]; omega), BitVec.toNat_ofNat]; omega
  rw [BitVec.slt, ea, eb]
  exact decide_eq_decide.mpr Int.ofNat_lt

end Cert.Words

end
-- ==== Proof.Value.Stages.lean ====
module

public import proofs.«01_k».proof.Proof.Gen.KernelIdeal.Value
public import proofs.«01_k».proof.Proof.Value.Math
public import Idealize.ShloMosaic.Lib.Pipeline.ValueKit
public import Idealize.ShloMosaic.Lib.Pipeline.ReadBack

@[expose] public section

set_option maxRecDepth 16384

noncomputable section

namespace Cert.KernelIdeal.Stages

open Cert.KernelIdeal Cert.KernelIdeal.Gen Cert.Words Idealize.ShloMosaic Idealize.ShloMosaic.TcCoe Idealize.SL.Sem

variable {sp : Space}

/-- A load through a rectangle, of stores that leave the contents `G`, reads `G` there. -/
theorem readCov_of_canon {s : Shape} {e : EltTy} (v : View sig .tc sp s e) (L : List (View.Piece (Elt Ideal) s e)) (G : Vec Ideal s e)
    (h : ∀ y, View.canon L y = G y) (r : Rect s) : v.readCov (Val := Elt Ideal) L r.toLoadRect = View.ld (Val := Elt Ideal) G r := by
  rw [View.readCov_eq_canon']
  funext j
  exact h _

/-- A band of whole columns `o … o + n - 1` holds every index whose column lies there. -/
theorem mem_cols {C W o n : ℕ} (inb : ∀ a, (![0, o] : Fin 2 → ℕ) a + (![C, n] : Fin 2 → ℕ) a ≤ (⟨2, ![C, W]⟩ : Shape).size a)
    (y : (⟨2, ![C, W]⟩ : Shape).Idx) (h : o ≤ (y 1 : ℕ) ∧ (y 1 : ℕ) < o + n) :
    y ∈ (Rect.unit (s := ⟨2, ![C, W]⟩) ![0, o] ![C, n] inb).set := by
  rw [Rect.mem_set_unit]
  intro a
  match a with
  | ⟨0, _⟩ => exact ⟨Nat.zero_le _, lt_of_lt_of_eq (y 0).isLt (Nat.zero_add C).symm⟩
  | ⟨1, _⟩ => exact h

/-- Three column bands — a signal at column `n1`, zeros before and after — leave the signal padded by zeros, its window
    starting at padded position `o = 2 - n1`. -/
theorem pad3 {C T W n1 n2 hi : ℕ} (o : ℕ) (f : Fin C → Fin T → EReal)
    (inb1 : ∀ a, (![0, n1] : Fin 2 → ℕ) a + (![C, T] : Fin 2 → ℕ) a ≤ (⟨2, ![C, W]⟩ : Shape).size a)
    (inb2 : ∀ a, (![0, hi] : Fin 2 → ℕ) a + (![C, n2] : Fin 2 → ℕ) a ≤ (⟨2, ![C, W]⟩ : Shape).size a)
    (inb3 : ∀ a, (![0, 0] : Fin 2 → ℕ) a + (![C, n1] : Fin 2 → ℕ) a ≤ (⟨2, ![C, W]⟩ : Shape).size a)
    (d : Vec Ideal ⟨2, ![C, T]⟩ .bf16) (zh : Vec Ideal ⟨2, ![C, n2]⟩ .bf16) (zl : Vec Ideal ⟨2, ![C, n1]⟩ .bf16)
    (hd : ∀ x, d x = f (x 0) (x 1)) (hzh : ∀ x, zh x = (0 : EReal)) (hzl : ∀ x, zl x = (0 : EReal))
    (ho : n1 + o = 2) (hhi : hi = n1 + T) (hW : hi + n2 = W) (y : (⟨2, ![C, W]⟩ : Shape).Idx) :
    View.canon (Val := Elt Ideal)
      [(⟨Rect.unit (s := ⟨2, ![C, W]⟩) ![0, n1] ![C, T] inb1, d⟩ : View.Piece (Elt Ideal) ⟨2, ![C, W]⟩ .bf16),
       ⟨Rect.unit (s := ⟨2, ![C, W]⟩) ![0, hi] ![C, n2] inb2, zh⟩,
       ⟨Rect.unit (s := ⟨2, ![C, W]⟩) ![0, 0] ![C, n1] inb3, zl⟩] y = padded T (f (y 0)) (y 1 + o) := by
  have h1 : (y 1 : ℕ) < W := (y 1).isLt
  refine View.canon_eq_of_allAt _ _ _ ?_ (View.allAt_cons_unit _ _ _ _ _ ?_ (View.allAt_cons_unit _ _ _ _ _ ?_ (View.allAt_cons_unit _ _ _ _ _ ?_ (View.allAt_nil _ _))))
  · by_cases ha : (y 1 : ℕ) < n1
    · exact ⟨_, List.mem_cons_of_mem _ (List.mem_cons_of_mem _ List.mem_cons_self), mem_cols inb3 y ⟨by omega, by omega⟩⟩
    · by_cases hb : (y 1 : ℕ) < hi
      · exact ⟨_, List.mem_cons_self, mem_cols inb1 y ⟨by omega, by omega⟩⟩
      · exact ⟨_, List.mem_cons_of_mem _ List.mem_cons_self, mem_cols inb2 y ⟨by omega, by omega⟩⟩
  · intro x hx
    have e0 : (y 0 : ℕ) = 0 + x 0 := hx 0
    have e1 : (y 1 : ℕ) = n1 + x 1 := hx 1
    have l1 : (x 1 : ℕ) < T := (x 1).isLt
    have q0 : y 0 = x 0 := Fin.ext (by omega)
    rw [hd, padded, dif_pos (by omega), q0]
    exact congrArg (f (x 0)) (Fin.ext (by show (x 1 : ℕ) = (y 1 : ℕ) + o - 2; omega))
  · intro x hx
    have e1 : (y 1 : ℕ) = hi + x 1 := hx 1
    rw [hzh, padded, dif_neg (by omega)]
  · intro x hx
    have e1 : (y 1 : ℕ) = 0 + x 1 := hx 1
    have l1 : (x 1 : ℕ) < n1 := (x 1).isLt
    rw [hzl, padded, dif_neg (by omega)]

/-- The same, the signal stored as two halves of `H` columns. -/
theorem pad4 {C H T W n1 n2 n1' hi : ℕ} (o : ℕ) (f : Fin C → Fin T → EReal)
    (inb0 : ∀ a, (![0, n1'] : Fin 2 → ℕ) a + (![C, H] : Fin 2 → ℕ) a ≤ (⟨2, ![C, W]⟩ : Shape).size a)
    (inb1 : ∀ a, (![0, n1] : Fin 2 → ℕ) a + (![C, H] : Fin 2 → ℕ) a ≤ (⟨2, ![C, W]⟩ : Shape).size a)
    (inb2 : ∀ a, (![0, hi] : Fin 2 → ℕ) a + (![C, n2] : Fin 2 → ℕ) a ≤ (⟨2, ![C, W]⟩ : Shape).size a)
    (inb3 : ∀ a, (![0, 0] : Fin 2 → ℕ) a + (![C, n1] : Fin 2 → ℕ) a ≤ (⟨2, ![C, W]⟩ : Shape).size a)
    (d' d : Vec Ideal ⟨2, ![C, H]⟩ .bf16) (zh : Vec Ideal ⟨2, ![C, n2]⟩ .bf16) (zl : Vec Ideal ⟨2, ![C, n1]⟩ .bf16)
    (hT : T = 2 * H)
    (hd' : ∀ (p : Fin C) (t : Fin H), d' (ix2 p t) = f p ⟨H + t, by omega⟩)
    (hd : ∀ (p : Fin C) (t : Fin H), d (ix2 p t) = f p ⟨t, by omega⟩) (hzh : ∀ x, zh x = (0 : EReal)) (hzl : ∀ x, zl x = (0 : EReal))
    (ho : n1 + o = 2) (hn : n1' = n1 + H) (hhi : hi = n1 + T) (hW : hi + n2 = W) (y : (⟨2, ![C, W]⟩ : Shape).Idx) :
    View.canon (Val := Elt Ideal)
      [(⟨Rect.unit (s := ⟨2, ![C, W]⟩) ![0, n1'] ![C, H] inb0, d'⟩ : View.Piece (Elt Ideal) ⟨2, ![C, W]⟩ .bf16),
       ⟨Rect.unit (s := ⟨2, ![C, W]⟩) ![0, n1] ![C, H] inb1, d⟩,
       ⟨Rect.unit (s := ⟨2, ![C, W]⟩) ![0, hi] ![C, n2] inb2, zh⟩,
       ⟨Rect.unit (s := ⟨2, ![C, W]⟩) ![0, 0] ![C, n1] inb3, zl⟩] y = padded T (f (y 0)) (y 1 + o) := by
  have h1 : (y 1 : ℕ) < W := (y 1).isLt
  refine View.canon_eq_of_allAt _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))
  · by_cases ha : (y 1 : ℕ) < n1
    · exact ⟨_, List.mem_cons_of_mem _ (List.mem_cons_of_mem _ (List.mem_cons_of_mem _ List.mem_cons_self)), mem_cols inb3 y ⟨by omega, by omega⟩⟩
    · by_cases hb : (y 1 : ℕ) < n1'
      · exact ⟨_, List.mem_cons_of_mem _ List.mem_cons_self, mem_cols inb1 y ⟨by omega, by omega⟩⟩
      · by_cases hb : (y 1 : ℕ) < hi
        · exact ⟨_, List.mem_cons_self, mem_cols inb0 y ⟨by omega, by omega⟩⟩
        · exact ⟨_, List.mem_cons_of_mem _ (List.mem_cons_of_mem _ List.mem_cons_self), mem_cols inb2 y ⟨by omega, by omega⟩⟩
  · intro x hx
    have e0 : (y 0 : ℕ) = 0 + x 0 := hx 0
    have e1 : (y 1 : ℕ) = n1' + x 1 := hx 1
    have l1 : (x 1 : ℕ) < H := (x 1).isLt
    have q0 : y 0 = x 0 := Fin.ext (by omega)
    have hv : d' x = f (x 0) ⟨H + (x 1 : ℕ), by omega⟩ := (congrArg d' (eq_ix2 x)).trans (hd' (x 0) (x 1))
    rw [hv, padded, dif_pos (by omega), q0]
    exact congrArg (f (x 0)) (Fin.ext (by show H + (x 1 : ℕ) = (y 1 : ℕ) + o - 2; omega))
  · intro x hx
    have e0 : (y 0 : ℕ) = 0 + x 0 := hx 0
    have e1 : (y 1 : ℕ) = n1 + x 1 := hx 1
    have l1 : (x 1 : ℕ) < H := (x 1).isLt
    have q0 : y 0 = x 0 := Fin.ext (by omega)
    have hv : d x = f (x 0) ⟨(x 1 : ℕ), by omega⟩ := (congrArg d (eq_ix2 x)).trans (hd (x 0) (x 1))
    rw [hv, padded, dif_pos (by omega), q0]
    exact congrArg (f (x 0)) (Fin.ext (by show (x 1 : ℕ) = (y 1 : ℕ) + o - 2; omega))
  · intro x hx
    have e1 : (y 1 : ℕ) = hi + x 1 := hx 1
    rw [hzh, padded, dif_neg (by omega)]
  · intro x hx
    have e1 : (y 1 : ℕ) = 0 + x 1 := hx 1
    have l1 : (x 1 : ℕ) < n1 := (x 1).isLt
    rw [hzl, padded, dif_neg (by omega)]

/-- A band stored again leaves nothing of what was stored there before. -/
theorem canon_same {s : Shape} {e : EltTy} (r : Rect s) (w w' : Vec Ideal r.shape e) (L : List (View.Piece (Elt Ideal) s e)) :
    View.canon (Val := Elt Ideal) ((⟨r, w⟩ : View.Piece (Elt Ideal) s e) :: ⟨r, w'⟩ :: L) = View.canon (Val := Elt Ideal) ((⟨r, w⟩ : View.Piece (Elt Ideal) s e) :: L) := by
  funext y
  by_cases hm : y ∈ r.set
  · obtain ⟨x, rfl⟩ := r.exists_idx_of_mem hm
    rw [show r.idx x = r.emb x from rfl, View.canon_cons_emb, View.canon_cons_emb]
  · rw [View.canon_cons_of_not_mem _ _ hm, View.canon_cons_of_not_mem _ _ hm, View.canon_cons_of_not_mem _ _ hm]

/-- A band of `R` whole rows from row `o` holds every index whose row lies there. -/
theorem mem_rows {R C W o : ℕ} (inb : ∀ a, (![o, 0] : Fin 2 → ℕ) a + (![R, W] : Fin 2 → ℕ) a ≤ (⟨2, ![C, W]⟩ : Shape).size a)
    (y : (⟨2, ![C, W]⟩ : Shape).Idx) (h : o ≤ (y 0 : ℕ) ∧ (y 0 : ℕ) < o + R) :
    y ∈ (Rect.unit (s := ⟨2, ![C, W]⟩) ![o, 0] ![R, W] inb).set := by
  rw [Rect.mem_set_unit]
  intro a
  match a with
  | ⟨0, _⟩ => exact h
  | ⟨1, _⟩ => exact ⟨Nat.zero_le _, lt_of_lt_of_eq (y 1).isLt (Nat.zero_add W).symm⟩

/-- The window matrix of a padded signal: row `k * C + c` holds the signal of channel `c`, shifted by tap `k`, from
    position `o`. -/
def stackF {C T R W : ℕ} (hR : R = 5 * C) (f : Fin C → Fin T → EReal) (o : ℕ) (y : (⟨2, ![R, W]⟩ : Shape).Idx) : EReal :=
  padded T (f ⟨(y 0 : ℕ) % C, Nat.mod_lt _ (by have : (y 0 : ℕ) < R := (y 0).isLt; omega)⟩) (y 1 + o + (y 0 : ℕ) / C)

/-- One band of the window matrix: rows `k * C …` loaded from a padded buffer. -/
theorem stack_tile {C T R W V o k off p : ℕ} (hR : R = 5 * C) (f : Fin C → Fin T → EReal) (r0 : ℕ)
    (inb : ∀ a, (![0, off] : Fin 2 → ℕ) a + (![C, W] : Fin 2 → ℕ) a ≤ (⟨2, ![C, V]⟩ : Shape).size a)
    (P : Vec Ideal ⟨2, ![C, V]⟩ .bf16) (hP : ∀ y, P y = padded T (f (y 0)) (y 1 + p)) (hr0 : r0 = k * C) (hoff : off + p = o + k)
    (y : (⟨2, ![R, W]⟩ : Shape).Idx) :
    View.TileAt y ![r0, 0] ![C, W] (View.ld (Val := Elt Ideal) (e' := .bf16) P (Rect.unit (s := ⟨2, ![C, V]⟩) ![0, off] ![C, W] inb)) (stackF hR f o y : EReal) := by
  intro x hx
  have e0 : (y 0 : ℕ) = r0 + x 0 := hx 0
  have e1 : (y 1 : ℕ) = 0 + x 1 := hx 1
  have l0 : (x 0 : ℕ) < C := (x 0).isLt
  rw [View.ld_apply, hP, stackF]
  have q1 : (y 0 : ℕ) % C = x 0 := by rw [e0, hr0, Nat.add_comm, Nat.add_mul_mod_self_right, Nat.mod_eq_of_lt l0]
  have q2 : (y 0 : ℕ) / C = k := by rw [e0, hr0, Nat.add_comm, Nat.add_mul_div_right _ _ (by omega), Nat.div_eq_of_lt l0, Nat.zero_add]
  refine congrArg₂ (padded T) (congrArg f (Fin.ext ?_)) ?_
  · rw [Rect.idx_unit_val]; show 0 + (x 0 : ℕ) = (y 0 : ℕ) % C; omega
  · rw [Rect.idx_unit_val, q2]; show off + (x 1 : ℕ) + p = _; omega

/-- The last store decides where it holds the index; elsewhere the earlier ones do. -/
theorem canon_band {s : Shape} {e : EltTy} (off size : Fin s.rank → ℕ) (inb : ∀ a, off a + size a ≤ s.size a)
    (w : Vec Ideal ⟨s.rank, size⟩ e) (L : List (View.Piece (Elt Ideal) s e)) (y : s.Idx) (v : Elt Ideal e)
    (h1 : View.TileAt y off size w v) (h2 : y ∉ (Rect.unit off size inb).set → View.canon (Val := Elt Ideal) L y = v) :
    View.canon (Val := Elt Ideal) ((⟨Rect.unit off size inb, w⟩ : View.Piece (Elt Ideal) s e) :: L) y = v := by
  by_cases hm : y ∈ (Rect.unit off size inb).set
  · obtain ⟨x, rfl⟩ := (Rect.unit off size inb).exists_idx_of_mem hm
    rw [show (Rect.unit off size inb).idx x = (Rect.unit off size inb).emb x from rfl, View.canon_cons_emb]
    exact h1 x fun a => Rect.idx_unit_val off size inb x a
  · rw [View.canon_cons_of_not_mem _ _ hm]
    exact h2 hm

/-- Five bands of rows, one a tap, leave the window matrix, whatever was there before. -/
theorem stack5 {C T R W r1 r2 r3 r4 : ℕ} (hR : R = 5 * C) (f : Fin C → Fin T → EReal) (o : ℕ)
    (i4 : ∀ a, (![r4, 0] : Fin 2 → ℕ) a + (![C, W] : Fin 2 → ℕ) a ≤ (⟨2, ![R, W]⟩ : Shape).size a)
    (i3 : ∀ a, (![r3, 0] : Fin 2 → ℕ) a + (![C, W] : Fin 2 → ℕ) a ≤ (⟨2, ![R, W]⟩ : Shape).size a)
    (i2 : ∀ a, (![r2, 0] : Fin 2 → ℕ) a + (![C, W] : Fin 2 → ℕ) a ≤ (⟨2, ![R, W]⟩ : Shape).size a)
    (i1 : ∀ a, (![r1, 0] : Fin 2 → ℕ) a + (![C, W] : Fin 2 → ℕ) a ≤ (⟨2, ![R, W]⟩ : Shape).size a)
    (i0 : ∀ a, (![0, 0] : Fin 2 → ℕ) a + (![C, W] : Fin 2 → ℕ) a ≤ (⟨2, ![R, W]⟩ : Shape).size a)
    (d4 d3 d2 d1 d0 : Vec Ideal ⟨2, ![C, W]⟩ .bf16) (L : List (View.Piece (Elt Ideal) ⟨2, ![R, W]⟩ .bf16))
    (h1 : r1 = 1 * C) (h2 : r2 = 2 * C) (h3 : r3 = 3 * C) (h4 : r4 = 4 * C)
    (y : (⟨2, ![R, W]⟩ : Shape).Idx)
    (t4 : View.TileAt y ![r4, 0] ![C, W] d4 (stackF hR f o y : EReal))
    (t3 : View.TileAt y ![r3, 0] ![C, W] d3 (stackF hR f o y : EReal))
    (t2 : View.TileAt y ![r2, 0] ![C, W] d2 (stackF hR f o y : EReal))
    (t1 : View.TileAt y ![r1, 0] ![C, W] d1 (stackF hR f o y : EReal))
    (t0 : View.TileAt y ![0, 0] ![C, W] d0 (stackF hR f o y : EReal)) :
    View.canon (Val := Elt Ideal)
      ((⟨Rect.unit (s := ⟨2, ![R, W]⟩) ![r4, 0] ![C, W] i4, d4⟩ : View.Piece (Elt Ideal) ⟨2, ![R, W]⟩ .bf16)
       :: ⟨Rect.unit (s := ⟨2, ![R, W]⟩) ![r3, 0] ![C, W] i3, d3⟩
       :: ⟨Rect.unit (s := ⟨2, ![R, W]⟩) ![r2, 0] ![C, W] i2, d2⟩
       :: ⟨Rect.unit (s := ⟨2, ![R, W]⟩) ![r1, 0] ![C, W] i1, d1⟩
       :: ⟨Rect.unit (s := ⟨2, ![R, W]⟩) ![0, 0] ![C, W] i0, d0⟩ :: L) y = (stackF hR f o y : EReal) := by
  have h0 : (y 0 : ℕ) < R := (y 0).isLt
  refine canon_band _ _ i4 _ _ y _ t4 fun n4 => canon_band _ _ i3 _ _ y _ t3 fun n3 => canon_band _ _ i2 _ _ y _ t2 fun n2 =>
    canon_band _ _ i1 _ _ y _ t1 fun n1 => canon_band _ _ i0 _ _ y _ t0 fun n0 => ?_
  have m4 := mt (mem_rows i4 y) n4
  have m3 := mt (mem_rows i3 y) n3
  have m2 := mt (mem_rows i2 y) n2
  have m1 := mt (mem_rows i1 y) n1
  have m0 := mt (mem_rows i0 y) n0
  omega

end Cert.KernelIdeal.Stages
end
-- ==== Proof.Value.Buffers.lean ====
/-
  THE SCRATCH BUFFERS, READ BACK. Each signal lies twice in a padded buffer, from padded position 0 and from padded position 1 on; the five taps of a convolution are loaded from
  the two and stored as the bands of a window matrix. Here every such load is shown to be a window of the padded signal, and each stage of the body is read from them.
-/
module

public import proofs.«01_k».proof.Proof.Gen.KernelIdeal.Value
public import proofs.«01_k».proof.Proof.Value.Stages
public import Idealize.ShloMosaic.Lib.Pipeline.ValueKit
public import Idealize.ShloMosaic.Lib.Pipeline.ReadBack

@[expose] public section

set_option maxRecDepth 16384

noncomputable section

namespace Cert.KernelIdeal.Stages

open Cert.KernelIdeal Cert.KernelIdeal.Gen Cert.Words Idealize.ShloMosaic Idealize.ShloMosaic.TcCoe Idealize.SL.Sem

variable {sp : Space}

/-- A stored block of zeros is zero everywhere. -/
theorem stored_zero {s : Shape} (h : s.ShapeCasts s) (j : s.Idx) : shapeCast s (broadcast s (Scalar.ofBits (F := Ideal) .bf16 0x0000#16)) h j = (0 : EReal) := by
  pointwise

/-- The zeros before the features in their first buffer. -/
theorem pay5_zero (j : S256x2.Idx) : k0_pay5 (F := Ideal) j = (0 : EReal) := stored_zero _ j

/-- The zeros after the features in their first buffer. -/
theorem pay6_zero (j : S256x2.Idx) : k0_pay6 (F := Ideal) j = (0 : EReal) := stored_zero _ j

/-- The zeros before the features in their second buffer. -/
theorem pay8_zero (j : S256x1.Idx) : k0_pay8 (F := Ideal) j = (0 : EReal) := stored_zero _ j

/-- The zeros after the features in their second buffer. -/
theorem pay9_zero (j : S256x3.Idx) : k0_pay9 (F := Ideal) j = (0 : EReal) := stored_zero _ j

/-- The zeros before the first layer in its first buffer. -/
theorem pay11_zero (j : S512x2.Idx) : k0_pay11 (F := Ideal) j = (0 : EReal) := stored_zero _ j

/-- The zeros before the first layer in its second buffer. -/
theorem pay13_zero (j : S512x1.Idx) : k0_pay13 (F := Ideal) j = (0 : EReal) := stored_zero _ j

/-- The zeros after the first layer in its second buffer. -/
theorem pay14_zero (j : S512x3.Idx) : k0_pay14 (F := Ideal) j = (0 : EReal) := stored_zero _ j

/-- The zeros before the words in their first buffer. -/
theorem pay47_zero (j : S512x2.Idx) : k0_pay47 (F := Ideal) j = (0 : EReal) := stored_zero _ j

/-- The zeros after the words in their first buffer. -/
theorem pay48_zero (j : S512x2.Idx) : k0_pay48 (F := Ideal) j = (0 : EReal) := stored_zero _ j

/-- The zeros before the words in their second buffer. -/
theorem pay50_zero (j : S512x1.Idx) : k0_pay50 (F := Ideal) j = (0 : EReal) := by
  pointwise [k0_pay50]

/-- The zeros after the words in their second buffer. -/
theorem pay52_zero (j : S512x3.Idx) : k0_pay52 (F := Ideal) j = (0 : EReal) := stored_zero _ j

/-- The zeros after the first layer in its first buffer. -/
theorem pay12_zero (j : S512x2.Idx) : k0_pay12 (F := Ideal) (Scalar.ofBits .bf16 0x0000#16) j = (0 : EReal) := stored_zero _ j

/-! ## The features, padded, and the windows of five -/

/-- Channel `c` of the features' block, as a signal. -/
abbrev xsig (x0 : Vec Ideal S1x256x2048 .f32) (c : Fin 256) (t : Fin 2048) : EReal := x0 (ix3 0 c t)

/-- The padded features, from padded position `o` on. -/
def XP (o : ℕ) (x0 : Vec Ideal S1x256x2048 .f32) : Vec Ideal S256x2052 .bf16 :=
  fun y => padded 2048 (xsig x0 (y 0)) (y 1 + o)

/-- The window matrix of the features, from position `o` on. -/
def XS (o : ℕ) (x0 : Vec Ideal S1x256x2048 .f32) : Vec Ideal S1280x1024 .bf16 :=
  fun y => stackF (C := 256) (T := 2048) rfl (xsig x0) o y

/-- What is stored of the features into their first buffer. -/
theorem pay7_at (x0 : Vec Ideal S1x256x2048 .f32) (x : S256x2048.Idx) : k0_pay7 (F := Ideal) x0 x = xsig x0 (x 0) (x 1) := by
  pointwise [k0_pay7, k0_pay4]

/-- What is stored of the features into their second buffer. -/
theorem pay10_at (x0 : Vec Ideal S1x256x2048 .f32) (x : S256x2048.Idx) : k0_pay10 (F := Ideal) x0 x = xsig x0 (x 0) (x 1) := by
  pointwise [k0_pay10, k0_pay4]

/-- A load from the first padded buffer of the features. -/
theorem xa_read (x0 : Vec Ideal S1x256x2048 .f32) (v : View sig .tc sp S256x2052 .bf16) (r : Rect S256x2052) :
    v.readCov (Val := Elt Ideal)
      [(⟨Rect.unit (s := S256x2052) ![0, 2] ![256, 2048] inb_S256x2052_S256x2048_0_2, k0_pay7 (F := Ideal) x0⟩ : View.Piece (Elt Ideal) S256x2052 .bf16),
       (⟨Rect.unit (s := S256x2052) ![0, 2050] ![256, 2] inb_S256x2052_S256x2_0_2050, k0_pay6 (F := Ideal)⟩ : View.Piece (Elt Ideal) S256x2052 .bf16),
       (⟨Rect.unit (s := S256x2052) ![0, 0] ![256, 2] inb_S256x2052_S256x2_0_0, k0_pay5 (F := Ideal)⟩ : View.Piece (Elt Ideal) S256x2052 .bf16)] r.toLoadRect
      = View.ld (Val := Elt Ideal) (XP 0 x0) r := by
  exact readCov_of_canon v _ _ (fun y => pad3 0 (xsig x0) _ _ _ _ _ _ (pay7_at x0) pay6_zero pay5_zero rfl rfl rfl y) r

/-- A load from the second padded buffer of the features. -/
theorem xb_read (x0 : Vec Ideal S1x256x2048 .f32) (v : View sig .tc sp S256x2052 .bf16) (r : Rect S256x2052) :
    v.readCov (Val := Elt Ideal)
      [(⟨Rect.unit (s := S256x2052) ![0, 1] ![256, 2048] inb_S256x2052_S256x2048_0_1, k0_pay10 (F := Ideal) x0⟩ : View.Piece (Elt Ideal) S256x2052 .bf16),
       (⟨Rect.unit (s := S256x2052) ![0, 2049] ![256, 3] inb_S256x2052_S256x3_0_2049, k0_pay9 (F := Ideal)⟩ : View.Piece (Elt Ideal) S256x2052 .bf16),
       (⟨Rect.unit (s := S256x2052) ![0, 0] ![256, 1] inb_S256x2052_S256x1_0_0, k0_pay8 (F := Ideal)⟩ : View.Piece (Elt Ideal) S256x2052 .bf16)] r.toLoadRect
      = View.ld (Val := Elt Ideal) (XP 1 x0) r := by
  exact readCov_of_canon v _ _ (fun y => pad3 1 (xsig x0) _ _ _ _ _ _ (pay10_at x0) pay9_zero pay8_zero rfl rfl rfl y) r

/-- The window matrix of the features from position 0 on, as its five bands leave it. -/
theorem xs_read_0 (x0 : Vec Ideal S1x256x2048 .f32) (L : List (View.Piece (Elt Ideal) S1280x1024 .bf16)) (v : View sig .tc sp S1280x1024 .bf16) (r : Rect S1280x1024) :
    v.readCov (Val := Elt Ideal)
      ((⟨Rect.unit (s := S1280x1024) ![1024, 0] ![256, 1024] inb_S1280x1024_S256x1024_1024_0, View.ld (Val := Elt Ideal) (e' := .bf16) (XP 0 x0) (Rect.unit (s := S256x2052) ![0, 4] ![256, 1024] inb_S256x2052_S256x1024_0_4)⟩ : View.Piece (Elt Ideal) S1280x1024 .bf16)
       :: (⟨Rect.unit (s := S1280x1024) ![768, 0] ![256, 1024] inb_S1280x1024_S256x1024_768_0, View.ld (Val := Elt Ideal) (e' := .bf16) (XP 1 x0) (Rect.unit (s := S256x2052) ![0, 2] ![256, 1024] inb_S256x2052_S256x1024_0_2)⟩ : View.Piece (Elt Ideal) S1280x1024 .bf16)
       :: (⟨Rect.unit (s := S1280x1024) ![512, 0] ![256, 1024] inb_S1280x1024_S256x1024_512_0, View.ld (Val := Elt Ideal) (e' := .bf16) (XP 0 x0) (Rect.unit (s := S256x2052) ![0, 2] ![256, 1024] inb_S256x2052_S256x1024_0_2)⟩ : View.Piece (Elt Ideal) S1280x1024 .bf16)
       :: (⟨Rect.unit (s := S1280x1024) ![256, 0] ![256, 1024] inb_S1280x1024_S256x1024_256_0, View.ld (Val := Elt Ideal) (e' := .bf16) (XP 1 x0) (Rect.unit (s := S256x2052) ![0, 0] ![256, 1024] inb_S256x2052_S256x1024_0_0)⟩ : View.Piece (Elt Ideal) S1280x1024 .bf16)
       :: (⟨Rect.unit (s := S1280x1024) ![0, 0] ![256, 1024] inb_S1280x1024_S256x1024_0_0, View.ld (Val := Elt Ideal) (e' := .bf16) (XP 0 x0) (Rect.unit (s := S256x2052) ![0, 0] ![256, 1024] inb_S256x2052_S256x1024_0_0)⟩ : View.Piece (Elt Ideal) S1280x1024 .bf16) :: L) r.toLoadRect
      = View.ld (Val := Elt Ideal) (XS 0 x0) r := by
  refine readCov_of_canon v _ _ (fun y => ?_) r
  refine stack5 (C := 256) (R := 1280) (W := 1024) (r1 := 256) (r2 := 512) (r3 := 768) (r4 := 1024) rfl _ 0 _ _ _ _ _ _ _ _ _ _ L rfl rfl rfl rfl y ?_ ?_ ?_ ?_ ?_
  · exact stack_tile (C := 256) (W := 1024) (V := 2052) (o := 0) (k := 4) (off := 4) (p := 0) rfl _ 1024 _ _ (fun _ => rfl) rfl rfl y
  · exact stack_tile (C := 256) (W := 1024) (V := 2052) (o := 0) (k := 3) (off := 2) (p := 1) rfl _ 768 _ _ (fun _ => rfl) rfl rfl y
  · exact stack_tile (C := 256) (W := 1024) (V := 2052) (o := 0) (k := 2) (off := 2) (p := 0) rfl _ 512 _ _ (fun _ => rfl) rfl rfl y
  · exact stack_tile (C := 256) (W := 1024) (V := 2052) (o := 0) (k := 1) (off := 0) (p := 1) rfl _ 256 _ _ (fun _ => rfl) rfl rfl y
  · exact stack_tile (C := 256) (W := 1024) (V := 2052) (o := 0) (k := 0) (off := 0) (p := 0) rfl _ 0 _ _ (fun _ => rfl) rfl rfl y

/-- The window matrix of the features from position 1024 on, as its five bands leave it. -/
theorem xs_read_1024 (x0 : Vec Ideal S1x256x2048 .f32) (L : List (View.Piece (Elt Ideal) S1280x1024 .bf16)) (v : View sig .tc sp S1280x1024 .bf16) (r : Rect S1280x1024) :
    v.readCov (Val := Elt Ideal)
      ((⟨Rect.unit (s := S1280x1024) ![1024, 0] ![256, 1024] inb_S1280x1024_S256x1024_1024_0, View.ld (Val := Elt Ideal) (e' := .bf16) (XP 0 x0) (Rect.unit (s := S256x2052) ![0, 1028] ![256, 1024] inb_S256x2052_S256x1024_0_1028)⟩ : View.Piece (Elt Ideal) S1280x1024 .bf16)
       :: (⟨Rect.unit (s := S1280x1024) ![768, 0] ![256, 1024] inb_S1280x1024_S256x1024_768_0, View.ld (Val := Elt Ideal) (e' := .bf16) (XP 1 x0) (Rect.unit (s := S256x2052) ![0, 1026] ![256, 1024] inb_S256x2052_S256x1024_0_1026)⟩ : View.Piece (Elt Ideal) S1280x1024 .bf16)
       :: (⟨Rect.unit (s := S1280x1024) ![512, 0] ![256, 1024] inb_S1280x1024_S256x1024_512_0, View.ld (Val := Elt Ideal) (e' := .bf16) (XP 0 x0) (Rect.unit (s := S256x2052) ![0, 1026] ![256, 1024] inb_S256x2052_S256x1024_0_1026)⟩ : View.Piece (Elt Ideal) S1280x1024 .bf16)
       :: (⟨Rect.unit (s := S1280x1024) ![256, 0] ![256, 1024] inb_S1280x1024_S256x1024_256_0, View.ld (Val := Elt Ideal) (e' := .bf16) (XP 1 x0) (Rect.unit (s := S256x2052) ![0, 1024] ![256, 1024] inb_S256x2052_S256x1024_0_1024)⟩ : View.Piece (Elt Ideal) S1280x1024 .bf16)
       :: (⟨Rect.unit (s := S1280x1024) ![0, 0] ![256, 1024] inb_S1280x1024_S256x1024_0_0, View.ld (Val := Elt Ideal) (e' := .bf16) (XP 0 x0) (Rect.unit (s := S256x2052) ![0, 1024] ![256, 1024] inb_S256x2052_S256x1024_0_1024)⟩ : View.Piece (Elt Ideal) S1280x1024 .bf16) :: L) r.toLoadRect
      = View.ld (Val := Elt Ideal) (XS 1024 x0) r := by
  refine readCov_of_canon v _ _ (fun y => ?_) r
  refine stack5 (C := 256) (R := 1280) (W := 1024) (r1 := 256) (r2 := 512) (r3 := 768) (r4 := 1024) rfl _ 1024 _ _ _ _ _ _ _ _ _ _ L rfl rfl rfl rfl y ?_ ?_ ?_ ?_ ?_
  · exact stack_tile (C := 256) (W := 1024) (V := 2052) (o := 1024) (k := 4) (off := 1028) (p := 0) rfl _ 1024 _ _ (fun _ => rfl) rfl rfl y
  · exact stack_tile (C := 256) (W := 1024) (V := 2052) (o := 1024) (k := 3) (off := 1026) (p := 1) rfl _ 768 _ _ (fun _ => rfl) rfl rfl y
  · exact stack_tile (C := 256) (W := 1024) (V := 2052) (o := 1024) (k := 2) (off := 1026) (p := 0) rfl _ 512 _ _ (fun _ => rfl) rfl rfl y
  · exact stack_tile (C := 256) (W := 1024) (V := 2052) (o := 1024) (k := 1) (off := 1024) (p := 1) rfl _ 256 _ _ (fun _ => rfl) rfl rfl y
  · exact stack_tile (C := 256) (W := 1024) (V := 2052) (o := 1024) (k := 0) (off := 1024) (p := 0) rfl _ 0 _ _ (fun _ => rfl) rfl rfl y

/-! ## A contraction with a window matrix is a convolution -/

/-- The weights' row `p`, column `k * C + c`, as the weight of tap `k` and channel `c`. -/
def taps {O R : ℕ} (C : ℕ) (hR : R = 5 * C) {φ : FTy} (w : FVec Ideal ⟨2, ![O, R]⟩ φ) (p : Fin O) (k : Fin 5) (c : Fin C) : EReal :=
  w (ix2 p ⟨k * C + c, by have := k.isLt; have := c.isLt; have : (k : ℕ) * C ≤ 4 * C := Nat.mul_le_mul_right C (by omega); omega⟩)

/-- A row of weights contracted with the window matrix is the convolution of the signal with those weights. -/
theorem dot_stack {O C T R W : ℕ} (hR : R = 5 * C) {φ : FTy} (w : FVec Ideal ⟨2, ![O, R]⟩ φ) (f : Fin C → Fin T → EReal) (o : ℕ) (p : Fin O) (t : Fin W) :
    (∑ q : Fin R, (w (ix2 p q) : EReal) * stackF hR f o (ix2 q t : (⟨2, ![R, W]⟩ : Shape).Idx)) = conv C T (taps C hR w p) f (t + o) := by
  rw [Fin.sum_univ_tiles 5 C hR.symm, conv]
  refine Finset.sum_congr rfl fun k _ => Finset.sum_congr rfl fun c _ => ?_
  have hc : (c : ℕ) < C := c.isLt
  refine congrArg₂ (· * ·) rfl ?_
  unfold stackF
  have q1 : ((k : ℕ) * C + c) % C = c := by rw [Nat.add_comm, Nat.add_mul_mod_self_right, Nat.mod_eq_of_lt hc]
  have q2 : ((k : ℕ) * C + c) / C = k := by rw [Nat.add_comm, Nat.add_mul_div_right _ _ (by omega), Nat.div_eq_of_lt hc, Nat.zero_add]
  refine congrArg₂ (padded T) (congrArg f (Fin.ext q1)) ?_
  show (t : ℕ) + o + ((k : ℕ) * C + c) / C = t + o + k
  rw [q2]

/-! ## The first layer -/

/-- The first layer at channel `p`, position `t`: the convolution of the features, biased, its negative part cut off. -/
def H1 (b1 : Vec Ideal S512x1 .f32) (w1 : Vec Ideal S512x1280 .bf16) (x0 : Vec Ideal S1x256x2048 .f32) (p : Fin 512) (t : Fin 2048) : EReal :=
  max ((b1 (ix2 p 0) : EReal) + conv 256 2048 (taps 256 rfl (φ := .bf16) w1 p) (xsig x0) t) 0

/-- The first layer, as its product with a window matrix of the features gives it. -/
theorem pay20_at (b1 : Vec Ideal S512x1 .f32) (w1 : Vec Ideal S512x1280 .bf16) (x0 : Vec Ideal S1x256x2048 .f32) (o : ℕ) (ho : o + 1024 ≤ 2048) (p : Fin 512) (t : Fin 1024) :
    k0_pay20 (F := Ideal) b1 w1 (XS o x0) (ix2 p t) = H1 b1 w1 x0 p ⟨o + t, by omega⟩ := by
  pointwise [k0_pay20]
  refine (congrArg (fun z : EReal => max ((b1 (ix2 p 0) : EReal) + z) 0) (dot_stack rfl (φ := .bf16) w1 (xsig x0) o p t)).trans ?_
  exact congrArg (fun s : ℕ => max ((b1 (ix2 p 0) : EReal) + conv 256 2048 (taps 256 rfl (φ := .bf16) w1 p) (xsig x0) s) 0) (Nat.add_comm _ _)

/-- The first half of the first layer, as stored into its first buffer. -/
theorem pay21_eq (b1 : Vec Ideal S512x1 .f32) (w1 : Vec Ideal S512x1280 .bf16) (X : Vec Ideal S1280x1024 .bf16) :
    k0_pay21 (F := Ideal) b1 w1 X = k0_pay20 (F := Ideal) b1 w1 X := by
  funext j; pointwise [k0_pay21, k0_pay28, k0_pay20]

/-- The first half of the first layer, as stored into its second buffer. -/
theorem pay22_eq (b1 : Vec Ideal S512x1 .f32) (w1 : Vec Ideal S512x1280 .bf16) (X : Vec Ideal S1280x1024 .bf16) :
    k0_pay22 (F := Ideal) b1 w1 X = k0_pay20 (F := Ideal) b1 w1 X := by
  funext j; pointwise [k0_pay22, k0_pay28, k0_pay20]

/-- The second half of the first layer is computed as the first half is. -/
theorem pay28_eq (b1 : Vec Ideal S512x1 .f32) (w1 : Vec Ideal S512x1280 .bf16) (X : Vec Ideal S1280x1024 .bf16) :
    k0_pay28 (F := Ideal) b1 w1 X = k0_pay20 (F := Ideal) b1 w1 X := by
  funext j; pointwise [k0_pay28, k0_pay28, k0_pay20]

/-- The second half of the first layer, as stored into its first buffer. -/
theorem pay29_eq (b1 : Vec Ideal S512x1 .f32) (w1 : Vec Ideal S512x1280 .bf16) (X : Vec Ideal S1280x1024 .bf16) :
    k0_pay29 (F := Ideal) b1 w1 X = k0_pay20 (F := Ideal) b1 w1 X := by
  funext j; pointwise [k0_pay29, k0_pay28, k0_pay20]

/-- The second half of the first layer, as stored into its second buffer. -/
theorem pay30_eq (b1 : Vec Ideal S512x1 .f32) (w1 : Vec Ideal S512x1280 .bf16) (X : Vec Ideal S1280x1024 .bf16) :
    k0_pay30 (F := Ideal) b1 w1 X = k0_pay20 (F := Ideal) b1 w1 X := by
  funext j; pointwise [k0_pay30, k0_pay28, k0_pay20]

/-- The padded first layer, from padded position `o` on. -/
def HP (o : ℕ) (b1 : Vec Ideal S512x1 .f32) (w1 : Vec Ideal S512x1280 .bf16) (x0 : Vec Ideal S1x256x2048 .f32) : Vec Ideal S512x2052 .bf16 :=
  fun y => padded 2048 (H1 b1 w1 x0 (y 0)) (y 1 + o)

/-- The window matrix of the first layer, from position `o` on. -/
def HS (o : ℕ) (b1 : Vec Ideal S512x1 .f32) (w1 : Vec Ideal S512x1280 .bf16) (x0 : Vec Ideal S1x256x2048 .f32) : Vec Ideal S2560x1024 .bf16 :=
  fun y => stackF (C := 512) (T := 2048) rfl (H1 b1 w1 x0) o y

/-- A load from the first padded buffer of the first layer. -/
theorem ha_read (b1 : Vec Ideal S512x1 .f32) (w1 : Vec Ideal S512x1280 .bf16) (x0 : Vec Ideal S1x256x2048 .f32) (v : View sig .tc sp S512x2052 .bf16) (r : Rect S512x2052) :
    v.readCov (Val := Elt Ideal)
      [(⟨Rect.unit (s := S512x2052) ![0, 1026] ![512, 1024] inb_S512x2052_S512x1024_0_1026, k0_pay20 (F := Ideal) b1 w1 (XS 1024 x0)⟩ : View.Piece (Elt Ideal) S512x2052 .bf16),
       (⟨Rect.unit (s := S512x2052) ![0, 2] ![512, 1024] inb_S512x2052_S512x1024_0_2, k0_pay20 (F := Ideal) b1 w1 (XS 0 x0)⟩ : View.Piece (Elt Ideal) S512x2052 .bf16),
       (⟨Rect.unit (s := S512x2052) ![0, 2050] ![512, 2] inb_S512x2052_S512x2_0_2050, k0_pay12 (F := Ideal) (Scalar.ofBits .bf16 0x0000#16)⟩ : View.Piece (Elt Ideal) S512x2052 .bf16),
       (⟨Rect.unit (s := S512x2052) ![0, 0] ![512, 2] inb_S512x2052_S512x2_0_0, k0_pay11 (F := Ideal)⟩ : View.Piece (Elt Ideal) S512x2052 .bf16)] r.toLoadRect
      = View.ld (Val := Elt Ideal) (HP 0 b1 w1 x0) r := by
  refine readCov_of_canon v _ _ (fun y => pad4 0 (H1 b1 w1 x0) _ _ _ _ _ _ _ _ rfl (fun p t => pay20_at b1 w1 x0 1024 (by omega) p t) (fun p t => ?_) pay12_zero pay11_zero rfl rfl rfl rfl y) r
  exact (pay20_at b1 w1 x0 0 (by omega) p t).trans (congrArg (H1 b1 w1 x0 p) (Fin.ext (Nat.zero_add _)))

/-- A load from the second padded buffer of the first layer. -/
theorem hb_read (b1 : Vec Ideal S512x1 .f32) (w1 : Vec Ideal S512x1280 .bf16) (x0 : Vec Ideal S1x256x2048 .f32) (v : View sig .tc sp S512x2052 .bf16) (r : Rect S512x2052) :
    v.readCov (Val := Elt Ideal)
      [(⟨Rect.unit (s := S512x2052) ![0, 1025] ![512, 1024] inb_S512x2052_S512x1024_0_1025, k0_pay20 (F := Ideal) b1 w1 (XS 1024 x0)⟩ : View.Piece (Elt Ideal) S512x2052 .bf16),
       (⟨Rect.unit (s := S512x2052) ![0, 1] ![512, 1024] inb_S512x2052_S512x1024_0_1, k0_pay20 (F := Ideal) b1 w1 (XS 0 x0)⟩ : View.Piece (Elt Ideal) S512x2052 .bf16),
       (⟨Rect.unit (s := S512x2052) ![0, 2049] ![512, 3] inb_S512x2052_S512x3_0_2049, k0_pay14 (F := Ideal)⟩ : View.Piece (Elt Ideal) S512x2052 .bf16),
       (⟨Rect.unit (s := S512x2052) ![0, 0] ![512, 1] inb_S512x2052_S512x1_0_0, k0_pay13 (F := Ideal)⟩ : View.Piece (Elt Ideal) S512x2052 .bf16)] r.toLoadRect
      = View.ld (Val := Elt Ideal) (HP 1 b1 w1 x0) r := by
  refine readCov_of_canon v _ _ (fun y => pad4 1 (H1 b1 w1 x0) _ _ _ _ _ _ _ _ rfl (fun p t => pay20_at b1 w1 x0 1024 (by omega) p t) (fun p t => ?_) pay14_zero pay13_zero rfl rfl rfl rfl y) r
  exact (pay20_at b1 w1 x0 0 (by omega) p t).trans (congrArg (H1 b1 w1 x0 p) (Fin.ext (Nat.zero_add _)))

/-- The window matrix of the first layer from position 0 on, as its five bands leave it. -/
theorem hs_read_0 (b1 : Vec Ideal S512x1 .f32) (w1 : Vec Ideal S512x1280 .bf16) (x0 : Vec Ideal S1x256x2048 .f32) (L : List (View.Piece (Elt Ideal) S2560x1024 .bf16)) (v : View sig .tc sp S2560x1024 .bf16) (r : Rect S2560x1024) :
    v.readCov (Val := Elt Ideal)
      ((⟨Rect.unit (s := S2560x1024) ![2048, 0] ![512, 1024] inb_S2560x1024_S512x1024_2048_0, View.ld (Val := Elt Ideal) (e' := .bf16) (HP 0 b1 w1 x0) (Rect.unit (s := S512x2052) ![0, 4] ![512, 1024] inb_S512x2052_S512x1024_0_4)⟩ : View.Piece (Elt Ideal) S2560x1024 .bf16)
       :: (⟨Rect.unit (s := S2560x1024) ![1536, 0] ![512, 1024] inb_S2560x1024_S512x1024_1536_0, View.ld (Val := Elt Ideal) (e' := .bf16) (HP 1 b1 w1 x0) (Rect.unit (s := S512x2052) ![0, 2] ![512, 1024] inb_S512x2052_S512x1024_0_2)⟩ : View.Piece (Elt Ideal) S2560x1024 .bf16)
       :: (⟨Rect.unit (s := S2560x1024) ![1024, 0] ![512, 1024] inb_S2560x1024_S512x1024_1024_0, View.ld (Val := Elt Ideal) (e' := .bf16) (HP 0 b1 w1 x0) (Rect.unit (s := S512x2052) ![0, 2] ![512, 1024] inb_S512x2052_S512x1024_0_2)⟩ : View.Piece (Elt Ideal) S2560x1024 .bf16)
       :: (⟨Rect.unit (s := S2560x1024) ![512, 0] ![512, 1024] inb_S2560x1024_S512x1024_512_0, View.ld (Val := Elt Ideal) (e' := .bf16) (HP 1 b1 w1 x0) (Rect.unit (s := S512x2052) ![0, 0] ![512, 1024] inb_S512x2052_S512x1024_0_0)⟩ : View.Piece (Elt Ideal) S2560x1024 .bf16)
       :: (⟨Rect.unit (s := S2560x1024) ![0, 0] ![512, 1024] inb_S2560x1024_S512x1024_0_0, View.ld (Val := Elt Ideal) (e' := .bf16) (HP 0 b1 w1 x0) (Rect.unit (s := S512x2052) ![0, 0] ![512, 1024] inb_S512x2052_S512x1024_0_0)⟩ : View.Piece (Elt Ideal) S2560x1024 .bf16) :: L) r.toLoadRect
      = View.ld (Val := Elt Ideal) (HS 0 b1 w1 x0) r := by
  refine readCov_of_canon v _ _ (fun y => ?_) r
  refine stack5 (C := 512) (R := 2560) (W := 1024) (r1 := 512) (r2 := 1024) (r3 := 1536) (r4 := 2048) rfl _ 0 _ _ _ _ _ _ _ _ _ _ L rfl rfl rfl rfl y ?_ ?_ ?_ ?_ ?_
  · exact stack_tile (C := 512) (W := 1024) (V := 2052) (o := 0) (k := 4) (off := 4) (p := 0) rfl _ 2048 _ _ (fun _ => rfl) rfl rfl y
  · exact stack_tile (C := 512) (W := 1024) (V := 2052) (o := 0) (k := 3) (off := 2) (p := 1) rfl _ 1536 _ _ (fun _ => rfl) rfl rfl y
  · exact stack_tile (C := 512) (W := 1024) (V := 2052) (o := 0) (k := 2) (off := 2) (p := 0) rfl _ 1024 _ _ (fun _ => rfl) rfl rfl y
  · exact stack_tile (C := 512) (W := 1024) (V := 2052) (o := 0) (k := 1) (off := 0) (p := 1) rfl _ 512 _ _ (fun _ => rfl) rfl rfl y
  · exact stack_tile (C := 512) (W := 1024) (V := 2052) (o := 0) (k := 0) (off := 0) (p := 0) rfl _ 0 _ _ (fun _ => rfl) rfl rfl y

/-- The window matrix of the first layer from position 1024 on, as its five bands leave it. -/
theorem hs_read_1024 (b1 : Vec Ideal S512x1 .f32) (w1 : Vec Ideal S512x1280 .bf16) (x0 : Vec Ideal S1x256x2048 .f32) (L : List (View.Piece (Elt Ideal) S2560x1024 .bf16)) (v : View sig .tc sp S2560x1024 .bf16) (r : Rect S2560x1024) :
    v.readCov (Val := Elt Ideal)
      ((⟨Rect.unit (s := S2560x1024) ![2048, 0] ![512, 1024] inb_S2560x1024_S512x1024_2048_0, View.ld (Val := Elt Ideal) (e' := .bf16) (HP 0 b1 w1 x0) (Rect.unit (s := S512x2052) ![0, 1028] ![512, 1024] inb_S512x2052_S512x1024_0_1028)⟩ : View.Piece (Elt Ideal) S2560x1024 .bf16)
       :: (⟨Rect.unit (s := S2560x1024) ![1536, 0] ![512, 1024] inb_S2560x1024_S512x1024_1536_0, View.ld (Val := Elt Ideal) (e' := .bf16) (HP 1 b1 w1 x0) (Rect.unit (s := S512x2052) ![0, 1026] ![512, 1024] inb_S512x2052_S512x1024_0_1026)⟩ : View.Piece (Elt Ideal) S2560x1024 .bf16)
       :: (⟨Rect.unit (s := S2560x1024) ![1024, 0] ![512, 1024] inb_S2560x1024_S512x1024_1024_0, View.ld (Val := Elt Ideal) (e' := .bf16) (HP 0 b1 w1 x0) (Rect.unit (s := S512x2052) ![0, 1026] ![512, 1024] inb_S512x2052_S512x1024_0_1026)⟩ : View.Piece (Elt Ideal) S2560x1024 .bf16)
       :: (⟨Rect.unit (s := S2560x1024) ![512, 0] ![512, 1024] inb_S2560x1024_S512x1024_512_0, View.ld (Val := Elt Ideal) (e' := .bf16) (HP 1 b1 w1 x0) (Rect.unit (s := S512x2052) ![0, 1024] ![512, 1024] inb_S512x2052_S512x1024_0_1024)⟩ : View.Piece (Elt Ideal) S2560x1024 .bf16)
       :: (⟨Rect.unit (s := S2560x1024) ![0, 0] ![512, 1024] inb_S2560x1024_S512x1024_0_0, View.ld (Val := Elt Ideal) (e' := .bf16) (HP 0 b1 w1 x0) (Rect.unit (s := S512x2052) ![0, 1024] ![512, 1024] inb_S512x2052_S512x1024_0_1024)⟩ : View.Piece (Elt Ideal) S2560x1024 .bf16) :: L) r.toLoadRect
      = View.ld (Val := Elt Ideal) (HS 1024 b1 w1 x0) r := by
  refine readCov_of_canon v _ _ (fun y => ?_) r
  refine stack5 (C := 512) (R := 2560) (W := 1024) (r1 := 512) (r2 := 1024) (r3 := 1536) (r4 := 2048) rfl _ 1024 _ _ _ _ _ _ _ _ _ _ L rfl rfl rfl rfl y ?_ ?_ ?_ ?_ ?_
  · exact stack_tile (C := 512) (W := 1024) (V := 2052) (o := 1024) (k := 4) (off := 1028) (p := 0) rfl _ 2048 _ _ (fun _ => rfl) rfl rfl y
  · exact stack_tile (C := 512) (W := 1024) (V := 2052) (o := 1024) (k := 3) (off := 1026) (p := 1) rfl _ 1536 _ _ (fun _ => rfl) rfl rfl y
  · exact stack_tile (C := 512) (W := 1024) (V := 2052) (o := 1024) (k := 2) (off := 1026) (p := 0) rfl _ 1024 _ _ (fun _ => rfl) rfl rfl y
  · exact stack_tile (C := 512) (W := 1024) (V := 2052) (o := 1024) (k := 1) (off := 1024) (p := 1) rfl _ 512 _ _ (fun _ => rfl) rfl rfl y
  · exact stack_tile (C := 512) (W := 1024) (V := 2052) (o := 1024) (k := 0) (off := 1024) (p := 0) rfl _ 0 _ _ (fun _ => rfl) rfl rfl y

/-! ## The second layer and the pooled words -/

/-- The second layer at channel `p`, position `t`. -/
def H2 (b2 : Vec Ideal S512x1 .f32) (w2 : Vec Ideal S512x2560 .bf16) (h : Fin 512 → Fin 2048 → EReal) (p : Fin 512) (t : Fin 2048) : EReal :=
  (b2 (ix2 p 0) : EReal) + conv 512 2048 (taps 512 rfl (φ := .bf16) w2 p) h t

/-- The pooled second layer at word `w` of channel `p`: the half of the positions the word lies in, contracted with its column of the pooling matrix. -/
def POOL (b2 : Vec Ideal S512x1 .f32) (w2 : Vec Ideal S512x2560 .bf16) (h : Fin 512 → Fin 2048 → EReal) (pm : Vec Ideal S1024x64 .bf16) (p : Fin 512) (w : Fin 128) : EReal :=
  ∑ t : Fin 1024, H2 b2 w2 h p ⟨1024 * ((w : ℕ) / 64) + t, by omega⟩ * (pm (ix2 t ⟨(w : ℕ) % 64, by omega⟩) : EReal)

/-- The second layer, as its product with a window matrix of the first layer gives it. -/
theorem pay36_at (b2 : Vec Ideal S512x1 .f32) (w2 : Vec Ideal S512x2560 .bf16) (b1 : Vec Ideal S512x1 .f32) (w1 : Vec Ideal S512x1280 .bf16) (x0 : Vec Ideal S1x256x2048 .f32)
    (o : ℕ) (ho : o + 1024 ≤ 2048) (p : Fin 512) (t : Fin 1024) :
    k0_pay36 (F := Ideal) b2 w2 (HS o b1 w1 x0) (ix2 p t) = H2 b2 w2 (H1 b1 w1 x0) p ⟨o + t, by omega⟩ := by
  pointwise [k0_pay36]
  refine (congrArg (fun z : EReal => (b2 (ix2 p 0) : EReal) + z) (dot_stack rfl (φ := .bf16) w2 (H1 b1 w1 x0) o p t)).trans ?_
  exact congrArg (fun s : ℕ => (b2 (ix2 p 0) : EReal) + conv 512 2048 (taps 512 rfl (φ := .bf16) w2 p) (H1 b1 w1 x0) s) (Nat.add_comm _ _)

/-- The pooling product: a row of the layer times a column of the pooling matrix. -/
theorem pay38_at (y : Vec Ideal S512x1024 .bf16) (pm : Vec Ideal S1024x64 .bf16) (p : Fin 512) (w : Fin 64) :
    k0_pay38 (F := Ideal) y pm (ix2 p w) = ∑ t : Fin 1024, (y (ix2 p t) : EReal) * (pm (ix2 t w) : EReal) := by
  pointwise [k0_pay38]

/-- The second half is pooled as the first half is. -/
theorem pay45_eq (b2 : Vec Ideal S512x1 .f32) (w2 : Vec Ideal S512x2560 .bf16) (X : Vec Ideal S2560x1024 .bf16) (pm : Vec Ideal S1024x64 .bf16) :
    k0_pay45 (F := Ideal) b2 w2 X pm = k0_pay38 (F := Ideal) (k0_pay36 (F := Ideal) b2 w2 X) pm := by
  funext j; pointwise [k0_pay45, k0_pay38, k0_pay36]

/-- The pooled words as the buffer holds them. -/
def PL (b2 : Vec Ideal S512x1 .f32) (w2 : Vec Ideal S512x2560 .bf16) (h : Fin 512 → Fin 2048 → EReal) (pm : Vec Ideal S1024x64 .bf16) : Vec Ideal S512x128 .f32 :=
  fun y => POOL b2 w2 h pm (y 0) (y 1)

/-- The buffer of the pooled words, as its two halves leave it. -/
theorem pool_read (b2 : Vec Ideal S512x1 .f32) (w2 : Vec Ideal S512x2560 .bf16) (b1 : Vec Ideal S512x1 .f32) (w1 : Vec Ideal S512x1280 .bf16) (x0 : Vec Ideal S1x256x2048 .f32)
    (pm : Vec Ideal S1024x64 .bf16) (v : View sig .tc sp S512x128 .f32) (r : Rect S512x128) :
    v.readCov (Val := Elt Ideal)
      [(⟨Rect.unit (s := S512x128) ![0, 64] ![512, 64] inb_S512x128_S512x64_0_64, k0_pay38 (F := Ideal) (k0_pay36 (F := Ideal) b2 w2 (HS 1024 b1 w1 x0)) pm⟩ : View.Piece (Elt Ideal) S512x128 .f32),
       ⟨Rect.unit (s := S512x128) ![0, 0] ![512, 64] inb_S512x128_S512x64_0_0, k0_pay38 (F := Ideal) (k0_pay36 (F := Ideal) b2 w2 (HS 0 b1 w1 x0)) pm⟩] r.toLoadRect
      = View.ld (Val := Elt Ideal) (PL b2 w2 (H1 b1 w1 x0) pm) r := by
  refine readCov_of_canon v _ _ (fun y => ?_) r
  have h1 : (y 1 : ℕ) < 128 := (y 1).isLt
  refine canon_band _ _ _ _ _ y _ ?_ fun n1 => canon_band _ _ _ _ _ y _ ?_ fun n0 => ?_
  · intro x hx
    have e0 : (y 0 : ℕ) = 0 + x 0 := hx 0
    have e1 : (y 1 : ℕ) = 64 + x 1 := hx 1
    have l1 : (x 1 : ℕ) < 64 := (x 1).isLt
    refine (congrArg _ (eq_ix2 (n0 := 512) (n1 := 64) x)).trans ((pay38_at _ pm (x 0) (x 1)).trans ?_)
    unfold PL POOL
    refine Finset.sum_congr rfl fun t _ => ?_
    refine congrArg₂ (· * ·) ((pay36_at b2 w2 b1 w1 x0 1024 (by omega) (x 0) t).trans ?_) ?_
    · exact congrArg₂ (H2 b2 w2 (H1 b1 w1 x0)) (Fin.ext (by omega)) (Fin.ext (by show 1024 + (t : ℕ) = 1024 * ((y 1 : ℕ) / 64) + t; omega))
    · exact congrArg pm (congrArg (ix2 t) (Fin.ext (by show (x 1 : ℕ) = (y 1 : ℕ) % 64; omega)))
  · intro x hx
    have e0 : (y 0 : ℕ) = 0 + x 0 := hx 0
    have e1 : (y 1 : ℕ) = 0 + x 1 := hx 1
    have l1 : (x 1 : ℕ) < 64 := (x 1).isLt
    refine (congrArg _ (eq_ix2 (n0 := 512) (n1 := 64) x)).trans ((pay38_at _ pm (x 0) (x 1)).trans ?_)
    unfold PL POOL
    refine Finset.sum_congr rfl fun t _ => ?_
    refine congrArg₂ (· * ·) ((pay36_at b2 w2 b1 w1 x0 0 (by omega) (x 0) t).trans ?_) ?_
    · exact congrArg₂ (H2 b2 w2 (H1 b1 w1 x0)) (Fin.ext (by omega)) (Fin.ext (by show 0 + (t : ℕ) = 1024 * ((y 1 : ℕ) / 64) + t; omega))
    · exact congrArg pm (congrArg (ix2 t) (Fin.ext (by show (x 1 : ℕ) = (y 1 : ℕ) % 64; omega)))
  · have m1 := mt (mem_cols _ y) n1
    have m0 := mt (mem_cols _ y) n0
    omega

/-! ## The words, masked, and the two layers of the decoder -/

/-- Word `w` of channel `p`, kept or dropped by the mask. -/
def PV (pl : Vec Ideal S512x128 .f32) (x1 : Vec Ideal S1x1x128 .f32) (p : Fin 512) (w : Fin 128) : EReal :=
  (pl (ix2 p w) : EReal) * (x1 (ix3 0 0 w) : EReal)

/-- The pooled words times the mask, as stored into the second buffer. -/
theorem pay46_at (pl : Vec Ideal S512x128 .f32) (x1 : Vec Ideal S1x1x128 .f32) (y : S512x128.Idx) :
    k0_pay46 (F := Ideal) pl x1 y = PV pl x1 (y 0) (y 1) := by
  idx_vars y
  pointwise [k0_pay46, PV]

/-- The pooled words times the mask, as stored into the first buffer. -/
theorem pay49_at (pl : Vec Ideal S512x128 .f32) (x1 : Vec Ideal S1x1x128 .f32) (y : S512x128.Idx) :
    k0_pay49 (F := Ideal) pl x1 y = PV pl x1 (y 0) (y 1) := by
  idx_vars y
  pointwise [k0_pay49, k0_pay46, PV]

/-- A padded signal of 512 channels over the words, from padded position `o` on. -/
def WP (o : ℕ) (f : Fin 512 → Fin 128 → EReal) : Vec Ideal S512x132 .bf16 :=
  fun y => padded 128 (f (y 0)) (y 1 + o)

/-- Its window matrix. -/
def WS (f : Fin 512 → Fin 128 → EReal) : Vec Ideal S2560x128 .bf16 :=
  fun y => stackF (C := 512) (T := 128) rfl f 0 y

/-- A load from the first padded buffer of the masked words. -/
theorem wa_read (pl : Vec Ideal S512x128 .f32) (x1 : Vec Ideal S1x1x128 .f32) (v : View sig .tc sp S512x132 .bf16) (r : Rect S512x132) :
    v.readCov (Val := Elt Ideal)
      [(⟨Rect.unit (s := S512x132) ![0, 2] ![512, 128] inb_S512x132_S512x128_0_2, k0_pay49 (F := Ideal) pl x1⟩ : View.Piece (Elt Ideal) S512x132 .bf16),
       (⟨Rect.unit (s := S512x132) ![0, 130] ![512, 2] inb_S512x132_S512x2_0_130, k0_pay48 (F := Ideal)⟩ : View.Piece (Elt Ideal) S512x132 .bf16),
       (⟨Rect.unit (s := S512x132) ![0, 0] ![512, 2] inb_S512x132_S512x2_0_0, k0_pay47 (F := Ideal)⟩ : View.Piece (Elt Ideal) S512x132 .bf16)] r.toLoadRect
      = View.ld (Val := Elt Ideal) (WP 0 (PV pl x1)) r := by
  exact readCov_of_canon v _ _ (fun y => pad3 0 (PV pl x1) _ _ _ _ _ _ (pay49_at pl x1) pay48_zero pay47_zero rfl rfl rfl y) r

/-- A load from the second padded buffer of the masked words. -/
theorem wb_read (pl : Vec Ideal S512x128 .f32) (x1 : Vec Ideal S1x1x128 .f32) (v : View sig .tc sp S512x132 .bf16) (r : Rect S512x132) :
    v.readCov (Val := Elt Ideal)
      [(⟨Rect.unit (s := S512x132) ![0, 1] ![512, 128] inb_S512x132_S512x128_0_1, k0_pay46 (F := Ideal) pl x1⟩ : View.Piece (Elt Ideal) S512x132 .bf16),
       (⟨Rect.unit (s := S512x132) ![0, 129] ![512, 3] inb_S512x132_S512x3_0_129, k0_pay52 (F := Ideal)⟩ : View.Piece (Elt Ideal) S512x132 .bf16),
       (⟨Rect.unit (s := S512x132) ![0, 0] ![512, 1] inb_S512x132_S512x1_0_0, k0_pay50 (F := Ideal)⟩ : View.Piece (Elt Ideal) S512x132 .bf16)] r.toLoadRect
      = View.ld (Val := Elt Ideal) (WP 1 (PV pl x1)) r := by
  exact readCov_of_canon v _ _ (fun y => pad3 1 (PV pl x1) _ _ _ _ _ _ (pay46_at pl x1) pay52_zero pay50_zero rfl rfl rfl y) r

/-- The window matrix of a padded signal over the words, as its five bands leave it. -/
theorem ws_read (f : Fin 512 → Fin 128 → EReal) (L : List (View.Piece (Elt Ideal) S2560x128 .bf16)) (v : View sig .tc sp S2560x128 .bf16) (r : Rect S2560x128) :
    v.readCov (Val := Elt Ideal)
      ((⟨Rect.unit (s := S2560x128) ![2048, 0] ![512, 128] inb_S2560x128_S512x128_2048_0, View.ld (Val := Elt Ideal) (e' := .bf16) (WP 0 f) (Rect.unit (s := S512x132) ![0, 4] ![512, 128] inb_S512x132_S512x128_0_4)⟩ : View.Piece (Elt Ideal) S2560x128 .bf16)
       :: (⟨Rect.unit (s := S2560x128) ![1536, 0] ![512, 128] inb_S2560x128_S512x128_1536_0, View.ld (Val := Elt Ideal) (e' := .bf16) (WP 1 f) (Rect.unit (s := S512x132) ![0, 2] ![512, 128] inb_S512x132_S512x128_0_2)⟩ : View.Piece (Elt Ideal) S2560x128 .bf16)
       :: (⟨Rect.unit (s := S2560x128) ![1024, 0] ![512, 128] inb_S2560x128_S512x128_1024_0, View.ld (Val := Elt Ideal) (e' := .bf16) (WP 0 f) (Rect.unit (s := S512x132) ![0, 2] ![512, 128] inb_S512x132_S512x128_0_2)⟩ : View.Piece (Elt Ideal) S2560x128 .bf16)
       :: (⟨Rect.unit (s := S2560x128) ![512, 0] ![512, 128] inb_S2560x128_S512x128_512_0, View.ld (Val := Elt Ideal) (e' := .bf16) (WP 1 f) (Rect.unit (s := S512x132) ![0, 0] ![512, 128] inb_S512x132_S512x128_0_0)⟩ : View.Piece (Elt Ideal) S2560x128 .bf16)
       :: (⟨Rect.unit (s := S2560x128) ![0, 0] ![512, 128] inb_S2560x128_S512x128_0_0, View.ld (Val := Elt Ideal) (e' := .bf16) (WP 0 f) (Rect.unit (s := S512x132) ![0, 0] ![512, 128] inb_S512x132_S512x128_0_0)⟩ : View.Piece (Elt Ideal) S2560x128 .bf16) :: L) r.toLoadRect
      = View.ld (Val := Elt Ideal) (WS f) r := by
  refine readCov_of_canon v _ _ (fun y => ?_) r
  refine stack5 (C := 512) (R := 2560) (W := 128) (r1 := 512) (r2 := 1024) (r3 := 1536) (r4 := 2048) rfl _ 0 _ _ _ _ _ _ _ _ _ _ L rfl rfl rfl rfl y ?_ ?_ ?_ ?_ ?_
  · exact stack_tile (C := 512) (W := 128) (V := 132) (o := 0) (k := 4) (off := 4) (p := 0) rfl _ 2048 _ _ (fun _ => rfl) rfl rfl y
  · exact stack_tile (C := 512) (W := 128) (V := 132) (o := 0) (k := 3) (off := 2) (p := 1) rfl _ 1536 _ _ (fun _ => rfl) rfl rfl y
  · exact stack_tile (C := 512) (W := 128) (V := 132) (o := 0) (k := 2) (off := 2) (p := 0) rfl _ 1024 _ _ (fun _ => rfl) rfl rfl y
  · exact stack_tile (C := 512) (W := 128) (V := 132) (o := 0) (k := 1) (off := 0) (p := 1) rfl _ 512 _ _ (fun _ => rfl) rfl rfl y
  · exact stack_tile (C := 512) (W := 128) (V := 132) (o := 0) (k := 0) (off := 0) (p := 0) rfl _ 0 _ _ (fun _ => rfl) rfl rfl y

/-- The decoder's first layer at channel `p`, word `w`. -/
def D1 (b : Vec Ideal S512x1 .f32) (d : Vec Ideal S512x2560 .bf16) (f : Fin 512 → Fin 128 → EReal) (p : Fin 512) (w : Fin 128) : EReal :=
  max ((b (ix2 p 0) : EReal) + conv 512 128 (taps 512 rfl (φ := .bf16) d p) f w) 0

/-- The third layer, as its product with the window matrix of the words gives it. -/
theorem pay59_at (b : Vec Ideal S512x1 .f32) (d : Vec Ideal S512x2560 .bf16) (f : Fin 512 → Fin 128 → EReal) (y : S512x128.Idx) :
    k0_pay59 (F := Ideal) b d (WS f) y = D1 b d f (y 0) (y 1) := by
  idx_vars y
  pointwise [k0_pay59]
  exact congrArg (fun z : EReal => max ((b (ix2 y0 0) : EReal) + z) 0) (dot_stack rfl (φ := .bf16) d f 0 y0 y1)

/-- The third layer, as stored into the first buffer. -/
theorem pay60_eq (b : Vec Ideal S512x1 .f32) (d : Vec Ideal S512x2560 .bf16) (X : Vec Ideal S2560x128 .bf16) :
    k0_pay60 (F := Ideal) b d X = k0_pay59 (F := Ideal) b d X := by
  funext j; pointwise [k0_pay60]

/-- The third layer, as stored into the second buffer. -/
theorem pay61_eq (b : Vec Ideal S512x1 .f32) (d : Vec Ideal S512x2560 .bf16) (X : Vec Ideal S2560x128 .bf16) :
    k0_pay61 (F := Ideal) b d X = k0_pay59 (F := Ideal) b d X := by
  funext j; pointwise [k0_pay61]

/-- A load from the first padded buffer of the words after the decoder's first layer was stored over them. -/
theorem wa_read2 (b : Vec Ideal S512x1 .f32) (d : Vec Ideal S512x2560 .bf16) (f : Fin 512 → Fin 128 → EReal) (old : Vec Ideal S512x128 .bf16) (v : View sig .tc sp S512x132 .bf16) (r : Rect S512x132) :
    v.readCov (Val := Elt Ideal)
      [(⟨Rect.unit (s := S512x132) ![0, 2] ![512, 128] inb_S512x132_S512x128_0_2, k0_pay59 (F := Ideal) b d (WS f)⟩ : View.Piece (Elt Ideal) S512x132 .bf16),
       (⟨Rect.unit (s := S512x132) ![0, 2] ![512, 128] inb_S512x132_S512x128_0_2, old⟩ : View.Piece (Elt Ideal) S512x132 .bf16),
       (⟨Rect.unit (s := S512x132) ![0, 130] ![512, 2] inb_S512x132_S512x2_0_130, k0_pay48 (F := Ideal)⟩ : View.Piece (Elt Ideal) S512x132 .bf16),
       (⟨Rect.unit (s := S512x132) ![0, 0] ![512, 2] inb_S512x132_S512x2_0_0, k0_pay47 (F := Ideal)⟩ : View.Piece (Elt Ideal) S512x132 .bf16)] r.toLoadRect
      = View.ld (Val := Elt Ideal) (WP 0 (D1 b d f)) r := by
  refine readCov_of_canon v _ _ (fun y => ?_) r
  rw [canon_same]
  exact pad3 0 (D1 b d f) _ _ _ _ _ _ (pay59_at b d f) pay48_zero pay47_zero rfl rfl rfl y

/-- A load from the second padded buffer of the words after the decoder's first layer was stored over them. -/
theorem wb_read2 (b : Vec Ideal S512x1 .f32) (d : Vec Ideal S512x2560 .bf16) (f : Fin 512 → Fin 128 → EReal) (old : Vec Ideal S512x128 .bf16) (v : View sig .tc sp S512x132 .bf16) (r : Rect S512x132) :
    v.readCov (Val := Elt Ideal)
      [(⟨Rect.unit (s := S512x132) ![0, 1] ![512, 128] inb_S512x132_S512x128_0_1, k0_pay59 (F := Ideal) b d (WS f)⟩ : View.Piece (Elt Ideal) S512x132 .bf16),
       (⟨Rect.unit (s := S512x132) ![0, 1] ![512, 128] inb_S512x132_S512x128_0_1, old⟩ : View.Piece (Elt Ideal) S512x132 .bf16),
       (⟨Rect.unit (s := S512x132) ![0, 129] ![512, 3] inb_S512x132_S512x3_0_129, k0_pay52 (F := Ideal)⟩ : View.Piece (Elt Ideal) S512x132 .bf16),
       (⟨Rect.unit (s := S512x132) ![0, 0] ![512, 1] inb_S512x132_S512x1_0_0, k0_pay50 (F := Ideal)⟩ : View.Piece (Elt Ideal) S512x132 .bf16)] r.toLoadRect
      = View.ld (Val := Elt Ideal) (WP 1 (D1 b d f)) r := by
  refine readCov_of_canon v _ _ (fun y => ?_) r
  rw [canon_same]
  exact pad3 1 (D1 b d f) _ _ _ _ _ _ (pay59_at b d f) pay52_zero pay50_zero rfl rfl rfl y

/-- What the body stores: the decoder's second layer at word `w`. -/
theorem pay3_at (b : Vec Ideal S1x1 .f32) (d : Vec Ideal S1x2560 .bf16) (f : Fin 512 → Fin 128 → EReal) (w : Fin 128) :
    k0_pay3 (F := Ideal) b d (WS f) (ix3 0 0 w) = (b (ix2 0 0) : EReal) + conv 512 128 (taps 512 rfl (φ := .bf16) d 0) f w := by
  pointwise [k0_pay3]
  exact congrArg (fun z : EReal => (b (ix2 0 0) : EReal) + z) (dot_stack rfl (φ := .bf16) d f 0 0 w)

/-! ## Loads of a whole buffer -/

/-- A load of the whole window matrix of the features is the matrix. -/
theorem xs_whole (X : Vec Ideal S1280x1024 .bf16) : View.ld (Val := Elt Ideal) X (Rect.unit (s := S1280x1024) ![0, 0] ![1280, 1024] inb_S1280x1024_S1280x1024_0_0) = X :=
  View.ld_unit_lit inb_S1280x1024_S1280x1024_0_0 X (fun a => by fin_cases a <;> rfl)

/-- A load of the whole window matrix of the first layer is the matrix. -/
theorem hs_whole (X : Vec Ideal S2560x1024 .bf16) : View.ld (Val := Elt Ideal) X (Rect.unit (s := S2560x1024) ![0, 0] ![2560, 1024] inb_S2560x1024_S2560x1024_0_0) = X :=
  View.ld_unit_lit inb_S2560x1024_S2560x1024_0_0 X (fun a => by fin_cases a <;> rfl)

/-- A load of all pooled words is the pooled words. -/
theorem pl_whole (X : Vec Ideal S512x128 .f32) : View.ld (Val := Elt Ideal) X (Rect.unit (s := S512x128) ![0, 0] ![512, 128] inb_S512x128_S512x128_0_0) = X :=
  View.ld_unit_lit inb_S512x128_S512x128_0_0 X (fun a => by fin_cases a <;> rfl)

/-- A load of the whole window matrix of the words is the matrix. -/
theorem ws_whole (X : Vec Ideal S2560x128 .bf16) : View.ld (Val := Elt Ideal) X (Rect.unit (s := S2560x128) ![0, 0] ![2560, 128] inb_S2560x128_S2560x128_0_0) = X :=
  View.ld_unit_lit inb_S2560x128_S2560x128_0_0 X (fun a => by fin_cases a <;> rfl)

end Cert.KernelIdeal.Stages

end
-- ==== Proof.Value.Block.lean ====
/-
  ONE ITERATION OF THE KERNEL. What the body stores at a grid point is the decoder's second layer over the point's operand blocks: its loads, read back through the
  buffers it filled, are read with Buffers.lean stage by stage.
-/
module

public import proofs.«01_k».proof.Proof.Gen.KernelIdeal.Value
public import proofs.«01_k».proof.Proof.Value.Buffers

@[expose] public section

set_option maxRecDepth 16384
noncomputable section

namespace Cert.KernelIdeal.Stages

open Cert.KernelIdeal Cert.KernelIdeal.Gen Idealize.ShloMosaic Idealize.ShloMosaic.TcCoe Idealize.SL.Sem Cert.Words

variable (m : (ℓ : Loc nD τ sig) → Buf (Elt Ideal) ℓ)

set_option maxHeartbeats 3200000 in
/-- What the body leaves at word `w`, over the point's operand blocks. -/
theorem outs_pay (c : Dev nD) (t : Fin cfg0.N) (w : Fin 128) :
    outsAt0 m c t (ix3 0 0 w) = k0_pay3 (F := Ideal) (iblk m c 9 t) (iblk m c 8 t)
      (WS (D1 (iblk m c 7 t) (iblk m c 6 t)
        (PV (PL (iblk m c 5 t) (iblk m c 4 t) (H1 (iblk m c 3 t) (iblk m c 2 t) (iblk m c 0 t)) (iblk m c 10 t)) (iblk m c 1 t)))) (ix3 0 0 w) := by
  unfold outsAt0
  frame_out
  simp only [k0_pay1, k0_pay2, k0_pay15, k0_pay16, k0_pay17, k0_pay18, k0_pay19, k0_pay23, k0_pay24, k0_pay25, k0_pay26, k0_pay27, k0_pay31, k0_pay32, k0_pay33, k0_pay34, k0_pay35, k0_pay37, k0_pay39, k0_pay40, k0_pay41, k0_pay42, k0_pay43, k0_pay44, k0_pay51, k0_pay53, k0_pay54, k0_pay55, k0_pay56, k0_pay57, k0_pay58, k0_pay62, k0_pay63, k0_pay64, shapeCast_self, View.ld_unit_lit, View.ld_unit_lit', xa_read, xb_read, xs_read_0, xs_read_1024, pay21_eq, pay22_eq, pay29_eq, pay30_eq, ha_read, hb_read, hs_read_0, hs_read_1024,
    pay45_eq, pool_read, wa_read, wb_read, ws_read, pay60_eq, pay61_eq, xs_whole, hs_whole, pl_whole, ws_whole, wa_read2, wb_read2]

end Cert.KernelIdeal.Stages
end
-- ==== Proof.Value.Operands.lean ====
/-
  THE OPERANDS OF A GRID POINT. What the host line hands the kernel, read at an index: the features and the word mask of the point's batch, the weights with their taps
  moved in front of their channels, the biases, and the pooling matrix of sixteenths. With them, what the kernel stores at a word, over the argument arrays.
-/
module

public import proofs.«01_k».proof.Proof.Value.Block

@[expose] public section

set_option maxRecDepth 16384
noncomputable section

namespace Cert.KernelIdeal.Operands

open Cert.KernelIdeal Cert.KernelIdeal.Gen Cert.KernelIdeal.Stages Idealize.ShloMosaic Idealize.ShloMosaic.TcCoe Idealize.SL.Sem Cert.Words

variable (m : (ℓ : Loc nD τ sig) → Buf (Elt Ideal) ℓ)

/-- Where a point's blocks lie: the features and the mask move with the point along the batch, every other operand is taken whole. -/
theorem idx (t : Fin cfg0.N) : (win0_0.index t 0 = t ∧ win0_0.index t 1 = 0 ∧ win0_0.index t 2 = 0) ∧ (win0_1.index t 0 = t ∧ win0_1.index t 1 = 0 ∧ win0_1.index t 2 = 0) ∧
    (∀ a, win0_2.index t a = 0) ∧ (∀ a, win0_3.index t a = 0) ∧ (∀ a, win0_4.index t a = 0) ∧ (∀ a, win0_5.index t a = 0) ∧ (∀ a, win0_6.index t a = 0) ∧
    (∀ a, win0_7.index t a = 0) ∧ (∀ a, win0_8.index t a = 0) ∧ (∀ a, win0_9.index t a = 0) ∧ (∀ a, win0_10.index t a = 0) :=
  (by decide +kernel : ∀ t : Fin cfg0.N, (win0_0.index t 0 = t ∧ win0_0.index t 1 = 0 ∧ win0_0.index t 2 = 0) ∧ (win0_1.index t 0 = t ∧ win0_1.index t 1 = 0 ∧ win0_1.index t 2 = 0) ∧
    (∀ a, win0_2.index t a = 0) ∧ (∀ a, win0_3.index t a = 0) ∧ (∀ a, win0_4.index t a = 0) ∧ (∀ a, win0_5.index t a = 0) ∧ (∀ a, win0_6.index t a = 0) ∧
    (∀ a, win0_7.index t a = 0) ∧ (∀ a, win0_8.index t a = 0) ∧ (∀ a, win0_9.index t a = 0) ∧ (∀ a, win0_10.index t a = 0)) t

/-- The batch a grid point works on. -/
def bat (t : Fin cfg0.N) : Fin 8 := ⟨t, lt_of_lt_of_eq t.isLt (by decide +kernel)⟩

/-- The features of the point's batch. -/
theorem op0 (c : Dev nD) (t : Fin cfg0.N) (p : Fin 256) (q : Fin 2048) :
    iblk m c 0 t (ix3 0 p q) = m ((c : Thread nD τ).loc main_arg0) (ix3 (bat t) p q) := by
  blk_ext [iblk, V, idx t, bat]

/-- The first layer's weights, tap by tap. -/
theorem op2 (c : Dev nD) (t : Fin cfg0.N) (p : Fin 512) (k : Fin 5) (i : Fin 256) :
    taps (O := 512) (R := 1280) 256 rfl (φ := .bf16) (iblk m c 2 t) p k i = (show EReal from m ((c : Thread nD τ).loc main_arg3) (ix3 p i k)) := by
  unfold taps
  blk_simp [iblk]
  unfold V
  simp only [hostOps0, hostOps0_1, hostOps0_2, hostOps0_3, hostOps0_4, List.flatten_cons, List.flatten_nil, List.append_nil, List.cons_append, List.nil_append]
  entry_read
  pointwise
  blk_ext [idx t]

/-- The second layer's weights, tap by tap. -/
theorem op4 (c : Dev nD) (t : Fin cfg0.N) (p : Fin 512) (k : Fin 5) (i : Fin 512) :
    taps (O := 512) (R := 2560) 512 rfl (φ := .bf16) (iblk m c 4 t) p k i = (show EReal from m ((c : Thread nD τ).loc main_arg5) (ix3 p i k)) := by
  unfold taps
  blk_simp [iblk]
  unfold V
  simp only [hostOps0, hostOps0_1, hostOps0_2, hostOps0_3, hostOps0_4, List.flatten_cons, List.flatten_nil, List.append_nil, List.cons_append, List.nil_append]
  entry_read
  pointwise
  blk_ext [idx t]

/-- The third layer's weights, tap by tap. -/
theorem op6 (c : Dev nD) (t : Fin cfg0.N) (p : Fin 512) (k : Fin 5) (i : Fin 512) :
    taps (O := 512) (R := 2560) 512 rfl (φ := .bf16) (iblk m c 6 t) p k i = (show EReal from m ((c : Thread nD τ).loc main_arg7) (ix3 p i k)) := by
  unfold taps
  blk_simp [iblk]
  unfold V
  simp only [hostOps0, hostOps0_1, hostOps0_2, hostOps0_3, hostOps0_4, List.flatten_cons, List.flatten_nil, List.append_nil, List.cons_append, List.nil_append]
  entry_read
  pointwise
  blk_ext [idx t]

/-- The fourth layer's weights, tap by tap. -/
theorem op8 (c : Dev nD) (t : Fin cfg0.N) (p : Fin 1) (k : Fin 5) (i : Fin 512) :
    taps (O := 1) (R := 2560) 512 rfl (φ := .bf16) (iblk m c 8 t) p k i = (show EReal from m ((c : Thread nD τ).loc main_arg9) (ix3 p i k)) := by
  unfold taps
  blk_simp [iblk]
  unfold V
  simp only [hostOps0, hostOps0_1, hostOps0_2, hostOps0_3, hostOps0_4, List.flatten_cons, List.flatten_nil, List.append_nil, List.cons_append, List.nil_append]
  entry_read
  pointwise
  blk_ext [idx t]

/-- The first layer's bias. -/
theorem op3 (c : Dev nD) (t : Fin cfg0.N) (p : Fin 512) :
    (show EReal from iblk m c 3 t (ix2 p 0)) = (show EReal from m ((c : Thread nD τ).loc main_arg4) (ix1 p)) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx t]

/-- The second layer's bias. -/
theorem op5 (c : Dev nD) (t : Fin cfg0.N) (p : Fin 512) :
    (show EReal from iblk m c 5 t (ix2 p 0)) = (show EReal from m ((c : Thread nD τ).loc main_arg6) (ix1 p)) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx t]

/-- The third layer's bias. -/
theorem op7 (c : Dev nD) (t : Fin cfg0.N) (p : Fin 512) :
    (show EReal from iblk m c 7 t (ix2 p 0)) = (show EReal from m ((c : Thread nD τ).loc main_arg8) (ix1 p)) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx t]

/-- The fourth layer's bias. -/
theorem op9 (c : Dev nD) (t : Fin cfg0.N) (p : Fin 1) :
    (show EReal from iblk m c 9 t (ix2 p 0)) = (show EReal from m ((c : Thread nD τ).loc main_arg10) (ix1 p)) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx t]

/-- The pattern of one sixteenth. -/
theorem sixteenth : Ideal.ofBits .f32 0x3D800000#32 = ((1 / 16 : ℝ) : EReal) := by
  simp [Ideal.ofBits, Ideal.ieee, -EReal.coe_mul]
  norm_num

/-- The position divided by sixteen, rounded down, as the host line computes it. -/
theorem pm_word : ∀ q : Fin 1024,
        (Scalar.select
          (IntOp.andi
            (IntOp.cmpi CmpIPredicate.ne
              (if BitVec.ofNat 32 (q : ℕ) = 0 then (0 : BitVec 32) else if (BitVec.ofNat 32 (q : ℕ)).msb = true then -1 else 1)
              (if 16#32 = 0 then (0 : BitVec 32) else if (16#32).msb = true then -1 else 1))
            (IntOp.cmpi CmpIPredicate.ne (IntOp.remsi ArithUnit.host (BitVec.ofNat 32 (q : ℕ)) 16#32) 0#32))
          (IntOp.subi (IntOp.divsi ArithUnit.host (BitVec.ofNat 32 (q : ℕ)) 16#32) 1#32)
          (IntOp.divsi ArithUnit.host (BitVec.ofNat 32 (q : ℕ)) 16#32)) = BitVec.ofNat 32 ((q : ℕ) / 16) := by
  decide +kernel

/-- Two numbers below 2 ^ 32 are equal when their words are. -/
theorem eq_words (a b : ℕ) (ha : a < 4294967296) (hb : b < 4294967296) : BitVec.ofNat 32 a = BitVec.ofNat 32 b ↔ a = b := by
  constructor
  · intro h
    have h2 := congrArg BitVec.toNat h
    rwa [BitVec.toNat_ofNat, BitVec.toNat_ofNat, Nat.mod_eq_of_lt ha, Nat.mod_eq_of_lt hb] at h2
  · intro h; rw [h]

/-- The mask: one at a word below the batch's length, zero elsewhere. -/
theorem op1 (c : Dev nD) (t : Fin cfg0.N) (w : Fin 128) :
    (show EReal from iblk m c 1 t (ix3 0 0 w)) = if (BitVec.ofNat 32 (w : ℕ)).slt (m ((c : Thread nD τ).loc main_arg2) (ix1 (bat t))) = true then 1 else 0 := by
  blk_simp [iblk]
  unfold V
  simp only [hostOps0, hostOps0_1, hostOps0_2, hostOps0_3, hostOps0_4, List.flatten_cons, List.flatten_nil, List.append_nil, List.cons_append, List.nil_append]
  entry_read
  pointwise
  have e : (ix1 ((win0_1.blk t).view.emb (ix3 0 0 w) 0) : S8.Idx) = ix1 (bat t) := by blk_ext [idx t, bat]
  blk_simp [idx t]
  show FloatOps.uitofp (F := Ideal) FTy.f32 (IntOp.cmpi CmpIPredicate.slt (BitVec.ofNat 32 (w : ℕ)) (m ((c : Thread nD τ).loc main_arg2) (ix1 ((win0_1.blk t).view.emb (ix3 0 0 w) 0)))) = _
  rw [e]
  unfold IntOp.cmpi
  by_cases h : (BitVec.ofNat 32 (w : ℕ)).slt (m ((c : Thread nD τ).loc main_arg2) (ix1 (bat t))) = true
  · rw [if_pos h]
    simp only [h]
    show (((BitVec.ofBool true).toNat : ℝ) : EReal) = 1
    simp
  · rw [if_neg h]
    simp only [h]
    show (((BitVec.ofBool false).toNat : ℝ) : EReal) = 0
    simp

/-- The pooling matrix: one sixteenth where the position lies in the word, zero elsewhere. -/
theorem op10 (c : Dev nD) (t : Fin cfg0.N) (q : Fin 1024) (w : Fin 64) :
    (show EReal from iblk m c 10 t (ix2 q w)) = if (q : ℕ) / 16 = w then ((1 / 16 : ℝ) : EReal) else 0 := by
  blk_simp [iblk]
  unfold V
  simp only [hostOps0, hostOps0_1, hostOps0_2, hostOps0_3, hostOps0_4, List.flatten_cons, List.flatten_nil, List.append_nil, List.cons_append, List.nil_append]
  entry_read
  simp only [StableHlo.TRef.ofBuf, StableHlo.TRef.toBuf, cast_cast, cast_eq]
  pointwise
  blk_simp [idx t]
  refine (congrArg (fun z : BitVec 32 => Scalar.select (IntOp.cmpi .eq z (BitVec.ofNat 32 (w : ℕ))) (Ideal.ofBits .f32 0x3D800000#32) (0 : EReal)) (pm_word q)).trans ?_
  rw [sixteenth]
  unfold IntOp.cmpi Scalar.select
  have hq : (q : ℕ) < 1024 := q.isLt
  have hw : (w : ℕ) < 64 := w.isLt
  have e := eq_words ((q : ℕ) / 16) w (by omega) (by omega)
  by_cases h : (q : ℕ) / 16 = w
  · simp [h]
  · have hb : (BitVec.ofNat 32 ((q : ℕ) / 16) == BitVec.ofNat 32 (w : ℕ)) = false := beq_eq_false_iff_ne.mpr fun hh => h (e.mp hh)
    simp [hb, h]

end Cert.KernelIdeal.Operands
end
-- ==== Proof.Value.Kernel.lean ====
/-
  THE KERNEL'S RESULT. One grid point's block is two layers over the means of its batch's words (`outs_at`); the blocks make up the result array (`final`).
-/
module

public import proofs.«01_k».proof.Proof.Value.Operands

@[expose] public section

set_option maxRecDepth 16384
noncomputable section

namespace Cert.KernelIdeal.Operands

open Cert.KernelIdeal Cert.KernelIdeal.Gen Cert.KernelIdeal.Stages Idealize.ShloMosaic Idealize.ShloMosaic.TcCoe Idealize.SL.Sem Cert.Words

variable (m : (ℓ : Loc nD τ sig) → Buf (Elt Ideal) ℓ)

/-- The two layers over the features of batch `b`, at channel `p`. -/
def features (c : Dev nD) (b : Fin 8) (p : Fin 512) : Fin 2048 → EReal :=
  component 256 512 2048 (fun q i k => m ((c.tc : Thread nD τ).loc main_arg3) (ix3 q i k)) (fun q => m ((c.tc : Thread nD τ).loc main_arg4) (ix1 q))
    (fun q k => m ((c.tc : Thread nD τ).loc main_arg5) (ix3 p q k)) (m ((c.tc : Thread nD τ).loc main_arg6) (ix1 p)) (fun i s => m ((c.tc : Thread nD τ).loc main_arg0) (ix3 b i s))

/-- The mean of channel `p` of the layers over word `w` of batch `b`. -/
def means (c : Dev nD) (b : Fin 8) (p : Fin 512) (w : Fin 128) : EReal :=
  wordMean (features m c b p) ((BitVec.ofNat 32 (w : ℕ)).slt (m ((c.tc : Thread nD τ).loc main_arg2) (ix1 b))) w

/-- The result for batch `b` at word `w`: two layers over the means. -/
def result (c : Dev nD) (b : Fin 8) (w : Fin 128) : EReal :=
  component 512 512 128 (fun q i k => m ((c.tc : Thread nD τ).loc main_arg7) (ix3 q i k)) (fun q => m ((c.tc : Thread nD τ).loc main_arg8) (ix1 q))
    (fun q k => m ((c.tc : Thread nD τ).loc main_arg9) (ix3 0 q k)) (m ((c.tc : Thread nD τ).loc main_arg10) (ix1 0)) (means m c b) w

/-- The first layer over the point's blocks. -/
theorem h1_at (c : Dev nD) (t : Fin cfg0.N) : H1 (iblk m c 3 t) (iblk m c 2 t) (iblk m c 0 t)
    = fun q s => max (layer 256 2048 (m ((c.tc : Thread nD τ).loc main_arg4) (ix1 q)) (fun i k => m ((c.tc : Thread nD τ).loc main_arg3) (ix3 q i k))
        (fun i s => m ((c.tc : Thread nD τ).loc main_arg0) (ix3 (bat t) i s)) s) 0 := by
  funext q s
  unfold H1 layer
  have hb := op3 m c t q
  have hw : (fun k i => taps (O := 512) (R := 1280) 256 rfl (φ := .bf16) (iblk m c 2 t) q k i) = fun k i => (show EReal from m ((c.tc : Thread nD τ).loc main_arg3) (ix3 q i k)) :=
    funext fun k => funext fun i => op2 m c t q k i
  have hx : xsig (iblk m c 0 t) = fun i s => (show EReal from m ((c.tc : Thread nD τ).loc main_arg0) (ix3 (bat t) i s)) := funext fun i => funext fun s => op0 m c t i s
  exact congrArg (fun z : EReal => max z 0) (congrArg₂ (fun y z : EReal => y + z) hb (congrArg₂ (fun y z => conv 256 2048 y z s) hw hx))

/-- The second layer over the point's blocks. -/
theorem h2_at (c : Dev nD) (t : Fin cfg0.N) (p : Fin 512) : H2 (iblk m c 5 t) (iblk m c 4 t) (H1 (iblk m c 3 t) (iblk m c 2 t) (iblk m c 0 t)) p = features m c (bat t) p := by
  rw [h1_at]
  funext s
  unfold H2 features component
  have hw : (fun k i => taps (O := 512) (R := 2560) 512 rfl (φ := .bf16) (iblk m c 4 t) p k i) = fun k i => (show EReal from m ((c.tc : Thread nD τ).loc main_arg5) (ix3 p i k)) :=
    funext fun k => funext fun i => op4 m c t p k i
  exact congrArg₂ (fun y z : EReal => y + z) (op5 m c t p) (congrArg (fun y => conv 512 2048 y _ s) hw)

/-- The pooled words over the point's blocks. -/
theorem pv_at (c : Dev nD) (t : Fin cfg0.N) :
    PV (PL (iblk m c 5 t) (iblk m c 4 t) (H1 (iblk m c 3 t) (iblk m c 2 t) (iblk m c 0 t)) (iblk m c 10 t)) (iblk m c 1 t) = means m c (bat t) := by
  funext p w
  unfold PV PL POOL means
  simp only [ix2, h2_at]
  refine Eq.trans (congrArg₂ (fun y z : EReal => y * z) (Finset.sum_congr rfl fun q _ => congrArg (fun z : EReal => _ * z) (op10 m c t q _)) (op1 m c t w)) ?_
  exact pool_kernel _ _ w

/-- The third layer over the point's blocks. -/
theorem d1_at (c : Dev nD) (t : Fin cfg0.N) :
    D1 (iblk m c 7 t) (iblk m c 6 t) (PV (PL (iblk m c 5 t) (iblk m c 4 t) (H1 (iblk m c 3 t) (iblk m c 2 t) (iblk m c 0 t)) (iblk m c 10 t)) (iblk m c 1 t))
      = fun q s => max (layer 512 128 (m ((c.tc : Thread nD τ).loc main_arg8) (ix1 q)) (fun i k => m ((c.tc : Thread nD τ).loc main_arg7) (ix3 q i k)) (means m c (bat t)) s) 0 := by
  rw [pv_at]
  funext q s
  unfold D1 layer
  have hw : (fun k i => taps (O := 512) (R := 2560) 512 rfl (φ := .bf16) (iblk m c 6 t) q k i) = fun k i => (show EReal from m ((c.tc : Thread nD τ).loc main_arg7) (ix3 q i k)) :=
    funext fun k => funext fun i => op6 m c t q k i
  exact congrArg (fun z : EReal => max z 0) (congrArg₂ (fun y z : EReal => y + z) (op7 m c t q) (congrArg (fun y => conv 512 128 y _ s) hw))

/-- What one grid point leaves in its block of the result. -/
theorem outs_at (c : Dev nD) (t : Fin cfg0.N) (w : Fin 128) : outsAt0 m c t (ix3 0 0 w) = result m c (bat t) w := by
  rw [outs_pay, pay3_at, d1_at]
  unfold result component layer
  have hw : (fun k i => taps (O := 1) (R := 2560) 512 rfl (φ := .bf16) (iblk m c 8 t) 0 k i) = fun k i => (show EReal from m ((c.tc : Thread nD τ).loc main_arg9) (ix3 0 i k)) :=
    funext fun k => funext fun i => op8 m c t 0 k i
  exact congrArg₂ (fun y z : EReal => y + z) (op9 m c t 0) (congrArg (fun y => conv 512 128 y _ w) hw)

/-- Where a point's block of the result lies: at the batch of the point's number. -/
theorem idx11 (t : Fin cfg0.N) : win0_11.index t 0 = t ∧ win0_11.index t 1 = 0 ∧ win0_11.index t 2 = 0 :=
  (by decide +kernel : ∀ t : Fin cfg0.N, win0_11.index t 0 = t ∧ win0_11.index t 1 = 0 ∧ win0_11.index t 2 = 0) t

/-- The result array after the run, entry by entry. -/
theorem final (c : Dev nD) : (dats m 0 c).arrAt 11 cfg0.N = fun y : S8x1x128.Idx => (show EReal from result m c (y 0) (y 2)) := by
  refine (dats m 0 c).arrAt_eq_of_covers 11 _ (by decide +kernel) fun t _ y => ?_
  blk_simp
  rw [after0_11]
  obtain ⟨a, b, w, rfl⟩ : ∃ (a : Fin 1) (b : Fin 1) (w : Fin 128), y = ix3 a b w := ⟨y 0, y 1, y 2, by blk_ext [iblk]⟩
  rw [Subsingleton.elim a 0, Subsingleton.elim b 0, outs_at]
  show result m c (bat t) w = result m c _ _
  have i11 := idx11 t
  congr 1
  · refine Fin.ext ?_
    blk_simp [i11, bat]
    exact (Nat.add_zero _).symm
  · refine Fin.ext ?_
    blk_simp [i11]

end Cert.KernelIdeal.Operands

end
-- ==== Proof.Value.Reference.lean ====
/-
  THE REFERENCE, READ AT ONE ENTRY. Its stages are the mathematics of Math.lean: two convolution layers over the features, the mean of each word,
  and two convolution layers over the words. The bounds enter through the mask alone, which the precondition makes the words of sixteen positions.
-/
module

public import proofs.«01_k».proof.Proof.Gen.ReferenceIdeal.Read
public import proofs.«01_k».proof.Proof.Gen.Pre_words_contiguous
public import proofs.«01_k».proof.Proof.Value.Math
public import Idealize.ShloMosaic.Lib.Pointwise

@[expose] public section

set_option maxRecDepth 16384
noncomputable section

namespace Cert.ReferenceIdeal.Stages

open Cert.ReferenceIdeal Cert.ReferenceIdeal.Read Idealize.ShloMosaic Idealize.ShloMosaic.TcCoe Idealize.SL.Sem Cert.Words

/-- The integer zero as a float is zero. -/
theorem zero_word : FloatOps.sitofp (F := Ideal) FTy.f32 (0#32) = (0 : EReal) := by
  show (((0#32).toInt : ℝ) : EReal) = 0
  simp

/-- A word below the length is not at or past it. -/
theorem sge_word (len : BitVec 32) (w : ℕ) (hc : (BitVec.ofNat 32 w).slt len = true) : len.sle (BitVec.ofNat 32 w) = false := by
  rw [BitVec.slt, decide_eq_true_eq] at hc
  rw [BitVec.sle, decide_eq_false_iff_not]
  omega

/-- Two numbers below 2 ^ 31, as signed words, compare as they do. -/
theorem sle_words (a b : ℕ) (ha : a < 2147483648) (hb : b < 2147483648) : (BitVec.ofNat 32 a).sle (BitVec.ofNat 32 b) = decide (a ≤ b) := by
  have ea : (BitVec.ofNat 32 a).toInt = a := by rw [BitVec.toInt_eq_toNat_of_lt (by rw [BitVec.toNat_ofNat]; omega), BitVec.toNat_ofNat]; omega
  have eb : (BitVec.ofNat 32 b).toInt = b := by rw [BitVec.toInt_eq_toNat_of_lt (by rw [BitVec.toNat_ofNat]; omega), BitVec.toNat_ofNat]; omega
  rw [BitVec.sle, ea, eb]
  exact decide_eq_decide.mpr Int.ofNat_le

/-- What the precondition says of one bound: for a word below the length it is sixteen times the word, counted from the word or the one after it. -/
theorem bound_word (x len : BitVec 32) (w s : ℕ)
    (h : IntOp.ori (IntOp.cmpi CmpIPredicate.eq x (IntOp.muli (IntOp.addi (BitVec.ofNat 32 w) (BitVec.ofNat 32 s)) 16#32)) (IntOp.cmpi CmpIPredicate.sge (BitVec.ofNat 32 w) len) = 1#1)
    (hc : (BitVec.ofNat 32 w).slt len = true) : x = BitVec.ofNat 32 ((w + s) * 16) := by
  have e : (BitVec.ofNat 32 w + BitVec.ofNat 32 s) * 16#32 = BitVec.ofNat 32 ((w + s) * 16) := by
    rw [BitVec.ofNat_mul, BitVec.ofNat_add]
  unfold IntOp.ori IntOp.cmpi IntOp.muli IntOp.addi at h
  simp only [sge_word len w hc, e] at h
  by_contra hx
  rw [beq_eq_false_iff_ne.mpr hx] at h
  exact absurd h (by decide)

/-- The mask at one word and position, for the bounds the precondition asks: one where the word is below the length and the position lies in it, else zero. -/
theorem mask_word {w t : ℕ} (hw : w < 128) (ht : t < 2048) (lo hi len : BitVec 32)
    (hlo : (BitVec.ofNat 32 w).slt len = true → lo = BitVec.ofNat 32 ((w + 0) * 16)) (hhi : (BitVec.ofNat 32 w).slt len = true → hi = BitVec.ofNat 32 ((w + 1) * 16)) :
    FloatOps.uitofp (F := Ideal) FTy.f32
      (IntOp.andi (IntOp.andi (IntOp.cmpi CmpIPredicate.sge (BitVec.ofNat 32 t) lo) (IntOp.cmpi CmpIPredicate.slt (BitVec.ofNat 32 t) hi))
        (IntOp.cmpi CmpIPredicate.slt (BitVec.ofNat 32 w) len))
      = (if (BitVec.ofNat 32 w).slt len = true ∧ t / 16 = w then 1 else 0 : EReal) := by
  unfold IntOp.andi IntOp.cmpi
  by_cases hc : (BitVec.ofNat 32 w).slt len = true
  · rw [hlo hc, hhi hc]
    simp only [hc, sle_words ((w + 0) * 16) t (by omega) (by omega), slt_words t ((w + 1) * 16) (by omega) (by omega)]
    by_cases h : t / 16 = w
    · rw [if_pos ⟨trivial, h⟩, decide_eq_true (by omega : (w + 0) * 16 ≤ t), decide_eq_true (by omega : t < (w + 1) * 16)]
      show (((1#1 : BitVec 1).toNat : ℝ) : EReal) = 1
      simp
    · rw [if_neg (fun hh => h hh.2)]
      have h0 : BitVec.ofBool (decide ((w + 0) * 16 ≤ t)) &&& BitVec.ofBool (decide (t < (w + 1) * 16)) = 0#1 := by
        by_cases h1 : (w + 0) * 16 ≤ t
        · rw [decide_eq_false (by omega : ¬ t < (w + 1) * 16)]
          cases decide ((w + 0) * 16 ≤ t) <;> rfl
        · rw [decide_eq_false h1]
          cases decide (t < (w + 1) * 16) <;> rfl
      rw [h0]
      show (((0#1 &&& BitVec.ofBool true : BitVec 1).toNat : ℝ) : EReal) = 0
      simp
  · rw [if_neg (fun hh => hc hh.1)]
    simp only [hc]
    generalize BitVec.ofBool (lo.sle (BitVec.ofNat 32 t)) &&& BitVec.ofBool ((BitVec.ofNat 32 t).slt hi) = z
    have h0 : z &&& BitVec.ofBool false = 0#1 := by
      show z &&& 0#1 = 0#1
      exact BitVec.and_zero
    rw [h0]
    show (((0#1 : BitVec 1).toNat : ℝ) : EReal) = 0
    simp

/-- The features with two zeros on either side. -/
theorem v0_at (x0 : Vec Ideal S8x256x2048 .f32) (b : Fin 8) (i : Fin 256) (n : Fin 2052) :
    val_main_v0 (F := Ideal) x0 (ix3 b i n) = padded 2048 (fun t => x0 (ix3 b i t)) n := by
  pointwise [val_main_v0, val_main_call0_v0, val_main_c]
  exact padded_eq 2048 (fun t => x0 (ix3 b i t)) n _ zero_word

/-- The first layer, before the negative part is cut off. -/
theorem v32_at (x0 : Vec Ideal S8x256x2048 .f32) (x3 : Vec Ideal S512x256x5 .f32) (x4 : Vec Ideal S512 .f32) (b : Fin 8) (o : Fin 512) (t : Fin 2048) :
    val_main_v32 (F := Ideal) x0 x3 x4 (ix3 b o t) = layer 256 2048 (x4 (ix1 o)) (fun i k => x3 (ix3 o i k)) (fun i s => x0 (ix3 b i s)) t := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32]
  simp only [v0_at]
  exact layer_taps 256 2048 (x4 (ix1 o)) (fun i k => x3 (ix3 o i k)) (fun i s => x0 (ix3 b i s)) t

/-- The first layer. -/
theorem v33_at (x0 : Vec Ideal S8x256x2048 .f32) (x3 : Vec Ideal S512x256x5 .f32) (x4 : Vec Ideal S512 .f32) (b : Fin 8) (o : Fin 512) (t : Fin 2048) :
    val_main_v33 (F := Ideal) x0 x3 x4 (ix3 b o t) = max (layer 256 2048 (x4 (ix1 o)) (fun i k => x3 (ix3 o i k)) (fun i s => x0 (ix3 b i s)) t) 0 := by
  rw [← v32_at]
  pointwise [val_main_v33, val_main_call1_v0, val_main_call1_cst]

/-- The first layer with two zeros on either side. -/
theorem v34_at (x0 : Vec Ideal S8x256x2048 .f32) (x3 : Vec Ideal S512x256x5 .f32) (x4 : Vec Ideal S512 .f32) (b : Fin 8) (i : Fin 512) (n : Fin 2052) :
    val_main_v34 (F := Ideal) x0 x3 x4 (ix3 b i n) = padded 2048 (fun t => val_main_v33 (F := Ideal) x0 x3 x4 (ix3 b i t)) n := by
  pointwise [val_main_v34, val_main_call2_v0, val_main_c_0]
  exact padded_eq 2048 (fun t => val_main_v33 (F := Ideal) x0 x3 x4 (ix3 b i t)) n _ zero_word

/-- The two layers over the features. -/
theorem v66_at (x0 : Vec Ideal S8x256x2048 .f32) (x3 : Vec Ideal S512x256x5 .f32) (x4 : Vec Ideal S512 .f32) (x5 : Vec Ideal S512x512x5 .f32) (x6 : Vec Ideal S512 .f32) (b : Fin 8) (o : Fin 512) (t : Fin 2048) :
    val_main_v66 (F := Ideal) x0 x3 x4 x5 x6 (ix3 b o t) = component 256 512 2048 (fun q i k => x3 (ix3 q i k)) (fun q => x4 (ix1 q)) (fun q k => x5 (ix3 o q k)) (x6 (ix1 o)) (fun i s => x0 (ix3 b i s)) t := by
  pointwise [val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66]
  simp only [v34_at, v33_at]
  exact layer_taps 512 2048 (x6 (ix1 o)) (fun i k => x5 (ix3 o i k)) (fun q s => max (layer 256 2048 (x4 (ix1 q)) (fun i k => x3 (ix3 q i k)) (fun i s => x0 (ix3 b i s)) s) 0) t

/-- The mask of a word over the positions. -/
theorem v91_at (x1 : Vec Ideal S8x2x128 .i32) (x2 : Vec Ideal S8 .i32) (b : Fin 8) (w : Fin 128) (t : Fin 2048)
    (hx : ∀ s : Fin 2, (BitVec.ofNat 32 (w : ℕ)).slt (x2 (ix1 b)) = true → x1 (ix3 b s w) = BitVec.ofNat 32 (((w : ℕ) + s) * 16)) :
    val_main_v91 (F := Ideal) x1 x2 (ix3 b w t) = (if (BitVec.ofNat 32 (w : ℕ)).slt (x2 (ix1 b)) = true ∧ (t : ℕ) / 16 = w then 1 else 0 : EReal) := by
  pointwise [val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91]
  exact mask_word w.isLt t.isLt _ _ _ (hx 0) (hx 1)

/-- The mean of the two layers over each word. -/
theorem v101_at (x0 : Vec Ideal S8x256x2048 .f32) (x1 : Vec Ideal S8x2x128 .i32) (x2 : Vec Ideal S8 .i32) (x3 : Vec Ideal S512x256x5 .f32) (x4 : Vec Ideal S512 .f32) (x5 : Vec Ideal S512x512x5 .f32) (x6 : Vec Ideal S512 .f32) (b : Fin 8) (p : Fin 512) (w : Fin 128)
    (hx : ∀ s : Fin 2, (BitVec.ofNat 32 (w : ℕ)).slt (x2 (ix1 b)) = true → x1 (ix3 b s w) = BitVec.ofNat 32 (((w : ℕ) + s) * 16)) :
    val_main_v101 (F := Ideal) x0 x1 x2 x3 x4 x5 x6 (ix3 b p w)
      = wordMean (component 256 512 2048 (fun q i k => x3 (ix3 q i k)) (fun q => x4 (ix1 q)) (fun q k => x5 (ix3 p q k)) (x6 (ix1 p)) (fun i s => x0 (ix3 b i s)))
          ((BitVec.ofNat 32 (w : ℕ)).slt (x2 (ix1 b))) w := by
  pointwise [val_main_v101, val_main_call3_v0, val_main_call3_v1, val_main_call3_v2, val_main_cst, val_main_cst_1, val_main_cst_2, val_main_cst_3, val_main_v92, val_main_v93, val_main_v94, val_main_v95, val_main_v96, val_main_v97, val_main_v98, val_main_v99, val_main_v100]
  simp only [v66_at]
  refine Eq.trans ?_ (pool_reference _ _ w (fun t => val_main_v91 (F := Ideal) x1 x2 (ix3 b w t)) fun t => v91_at x1 x2 b w t hx)
  refine if_congr Iff.rfl rfl ?_
  show Ideal.ofBits .f32 0#32 = 0
  exact Ideal.ofBits_zero_f32

/-- The means with two zeros on either side. -/
theorem v102_at (x0 : Vec Ideal S8x256x2048 .f32) (x1 : Vec Ideal S8x2x128 .i32) (x2 : Vec Ideal S8 .i32) (x3 : Vec Ideal S512x256x5 .f32) (x4 : Vec Ideal S512 .f32) (x5 : Vec Ideal S512x512x5 .f32) (x6 : Vec Ideal S512 .f32) (b : Fin 8) (i : Fin 512) (n : Fin 132) :
    val_main_v102 (F := Ideal) x0 x1 x2 x3 x4 x5 x6 (ix3 b i n) = padded 128 (fun t => val_main_v101 (F := Ideal) x0 x1 x2 x3 x4 x5 x6 (ix3 b i t)) n := by
  pointwise [val_main_v102, val_main_call4_v0, val_main_c_4]
  exact padded_eq 128 (fun t => val_main_v101 (F := Ideal) x0 x1 x2 x3 x4 x5 x6 (ix3 b i t)) n _ zero_word

/-- The third layer, over the words. -/
theorem v135_at (x0 : Vec Ideal S8x256x2048 .f32) (x1 : Vec Ideal S8x2x128 .i32) (x2 : Vec Ideal S8 .i32) (x3 : Vec Ideal S512x256x5 .f32) (x4 : Vec Ideal S512 .f32) (x5 : Vec Ideal S512x512x5 .f32) (x6 : Vec Ideal S512 .f32) (x7 : Vec Ideal S512x512x5 .f32) (x8 : Vec Ideal S512 .f32) (b : Fin 8) (o : Fin 512) (t : Fin 128) :
    val_main_v135 (F := Ideal) x0 x1 x2 x3 x4 x5 x6 x7 x8 (ix3 b o t)
      = max (layer 512 128 (x8 (ix1 o)) (fun i k => x7 (ix3 o i k)) (fun i s => val_main_v101 (F := Ideal) x0 x1 x2 x3 x4 x5 x6 (ix3 b i s)) t) 0 := by
  pointwise [val_main_call5_v0, val_main_call5_cst, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135]
  simp only [v102_at]
  exact congrArg (fun z : EReal => max z 0) (layer_taps 512 128 (x8 (ix1 o)) (fun i k => x7 (ix3 o i k)) (fun i s => val_main_v101 (F := Ideal) x0 x1 x2 x3 x4 x5 x6 (ix3 b i s)) t)

/-- The third layer with two zeros on either side. -/
theorem v136_at (x0 : Vec Ideal S8x256x2048 .f32) (x1 : Vec Ideal S8x2x128 .i32) (x2 : Vec Ideal S8 .i32) (x3 : Vec Ideal S512x256x5 .f32) (x4 : Vec Ideal S512 .f32) (x5 : Vec Ideal S512x512x5 .f32) (x6 : Vec Ideal S512 .f32) (x7 : Vec Ideal S512x512x5 .f32) (x8 : Vec Ideal S512 .f32) (b : Fin 8) (i : Fin 512) (n : Fin 132) :
    val_main_v136 (F := Ideal) x0 x1 x2 x3 x4 x5 x6 x7 x8 (ix3 b i n) = padded 128 (fun t => val_main_v135 (F := Ideal) x0 x1 x2 x3 x4 x5 x6 x7 x8 (ix3 b i t)) n := by
  pointwise [val_main_v136, val_main_call6_v0, val_main_c_5]
  exact padded_eq 128 (fun t => val_main_v135 (F := Ideal) x0 x1 x2 x3 x4 x5 x6 x7 x8 (ix3 b i t)) n _ zero_word

/-- The result: two layers over the means of the words. -/
theorem v168_at (x0 : Vec Ideal S8x256x2048 .f32) (x1 : Vec Ideal S8x2x128 .i32) (x2 : Vec Ideal S8 .i32) (x3 : Vec Ideal S512x256x5 .f32) (x4 : Vec Ideal S512 .f32) (x5 : Vec Ideal S512x512x5 .f32) (x6 : Vec Ideal S512 .f32) (x7 : Vec Ideal S512x512x5 .f32) (x8 : Vec Ideal S512 .f32) (x9 : Vec Ideal S1x512x5 .f32) (x10 : Vec Ideal S1 .f32) (b : Fin 8) (t : Fin 128) :
    val_main_v168 (F := Ideal) x0 x1 x2 x3 x4 x5 x6 x7 x8 x9 x10 (ix3 b 0 t)
      = component 512 512 128 (fun q i k => x7 (ix3 q i k)) (fun q => x8 (ix1 q)) (fun q k => x9 (ix3 0 q k)) (x10 (ix1 0)) (fun i s => val_main_v101 (F := Ideal) x0 x1 x2 x3 x4 x5 x6 (ix3 b i s)) t := by
  pointwise [val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168]
  simp only [v136_at, v135_at]
  exact layer_taps 512 128 (x10 (ix1 0)) (fun i k => x9 (ix3 0 i k)) (fun q s => max (layer 512 128 (x8 (ix1 q)) (fun i k => x7 (ix3 q i k)) (fun i s => val_main_v101 (F := Ideal) x0 x1 x2 x3 x4 x5 x6 (ix3 b i s)) s) 0) t

/-- The bounds of a word below the length, from the precondition. -/
theorem pre_at (x0 : Vec Ideal S8x256x2048 .f32) (x1 : Vec Ideal S8x2x128 .i32) (x2 : Vec Ideal S8 .i32) (x3 : Vec Ideal S512x256x5 .f32) (x4 : Vec Ideal S512 .f32) (x5 : Vec Ideal S512x512x5 .f32) (x6 : Vec Ideal S512 .f32) (x7 : Vec Ideal S512x512x5 .f32) (x8 : Vec Ideal S512 .f32) (x9 : Vec Ideal S1x512x5 .f32) (x10 : Vec Ideal S1 .f32) (h : Cert.Pre_words_contiguous.fn (F := Ideal) x0 x1 x2 x3 x4 x5 x6 x7 x8 x9 x10 = fun _ => 1#1)
    (b : Fin 8) (s : Fin 2) (w : Fin 128) (hc : (BitVec.ofNat 32 (w : ℕ)).slt (x2 (ix1 b)) = true) : x1 (ix3 b s w) = BitVec.ofNat 32 (((w : ℕ) + s) * 16) := by
  have h1 := congrFun h (ix3 b s w)
  pointwise [Cert.Pre_words_contiguous.fn] at h1
  exact bound_word _ _ w s h1 hc

end Cert.ReferenceIdeal.Stages

end
-- ==== Proof.lean ====
/- The claims, assembled: the frames as they are generated, the reference's frame from its run, and the equation of the two results,
   entry by entry, from Value/Kernel.lean and Value/Reference.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_words_contiguous
public import proofs.«01_k».proof.Proof.Gen.KernelIdeal.Value
public import proofs.«01_k».proof.Proof.Gen.ReferenceIdeal.Run
public import proofs.«01_k».proof.Proof.Gen.ReferenceIdeal.Read
public import proofs.«01_k».proof.Proof.Value.Kernel
public import proofs.«01_k».proof.Proof.Value.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs from every memory, leaves its arguments as they were, and ends with every counter at zero. -/
theorem reference_quiescent : Cert.quiescent_ReferenceIdeal (hReferenceIdeal := Cert.ReferenceIdeal.Gen.facts) := by
  intro m g _
  exact (θ_run _ _ _).mono (fun r h => ⟨fun c => (h c).2, Idealize.ShloMosaic.sem_eq_zero_of_no_sems (by decide) r.2⟩) (Cert.ReferenceIdeal.Value.run m g)

/-- The reference's result, entry by entry, from a memory that agrees with the kernel's on the arguments and meets the precondition. -/
theorem reference_result (m : (ℓ : Loc Cert.KernelIdeal.nD Cert.KernelIdeal.τ Cert.KernelIdeal.sig) → Buf (Elt Ideal) ℓ) (hpre : Cert.Pre_KernelIdeal_words_contiguous (hPre_words_contiguous := Cert.Pre_words_contiguous.Gen.facts) m) (c : Dev Cert.KernelIdeal.nD) :
    Cert.ReferenceIdeal.Read.val_main_v168 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      = fun y => (show EReal from Cert.KernelIdeal.Operands.result m c (y 0) (y 2)) := by
  funext y
  obtain ⟨b, z, w, rfl⟩ : ∃ (b : Fin 8) (z : Fin 1) (w : Fin 128), y = ix3 b z w := ⟨y 0, y 1, y 2, by blk_ext⟩
  rw [Subsingleton.elim z 0]
  refine (Cert.ReferenceIdeal.Stages.v168_at _ _ _ _ _ _ _ _ _ _ _ b w).trans ?_
  show _ = Cert.KernelIdeal.Operands.result m c b w
  unfold Cert.KernelIdeal.Operands.result
  refine congrArg (fun f => Cert.Words.component 512 512 128 _ _ _ _ f w) (funext fun p => funext fun v => ?_)
  exact Cert.ReferenceIdeal.Stages.v101_at _ _ _ _ _ _ _ b p v fun s hc => Cert.ReferenceIdeal.Stages.pre_at _ _ _ _ _ _ _ _ _ _ _ (hpre c) b s v hc

/-- Over the extended reals the kernel and the reference end with the same result. -/
theorem same_result : Cert.algebraic_KernelIdeal_ReferenceIdeal_pre_words_contiguous (hKernelIdeal := Cert.KernelIdeal.Gen.facts) (hReferenceIdeal := Cert.ReferenceIdeal.Gen.facts)
    (hPre_words_contiguous := Cert.Pre_words_contiguous.Gen.facts) := by
  pair_intro
  · run_from (Cert.KernelIdeal.Value.run_blocks m g)
  · run_from (Cert.ReferenceIdeal.Value.run m' g')
    rw [Cert.KernelIdeal.Operands.final m c, ← reference_result m hpre c]
    obtain ⟨e0, e1, e2, e3, e4, e5, e6, e7, e8, e9, e10⟩ := hagree c
    rw [← e0, ← e1, ← e2, ← e3, ← e4, ← e5, ← e6, ← e7, ← e8, ← e9, ← e10]
    exact Cert.ReferenceIdeal.Read.val_main_v168_eq (StableHlo.launchContents m' c)

/-- Everything claimed. -/
theorem claim : Cert.Claim :=
  ⟨Cert.Kernel.Gen.facts, Cert.KernelIdeal.Gen.facts, Cert.ReferenceIdeal.Gen.facts, Cert.Pre_words_contiguous.Gen.facts,
    fun m ρ _ => Cert.Kernel.Gen.frame m ρ, fun m ρ _ => Cert.KernelIdeal.Gen.frame m ρ, fun m ρ _ => Cert.KernelIdeal.Gen.frame m ρ,
    reference_quiescent, fun m ρ _ => reference_quiescent m ρ trivial, trivial, same_result⟩

end Cert.Proof

end
